-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x8192 : Shape := ⟨3, ![8, 4096, 8192]⟩
abbrev S_ : Shape := ⟨0, ![]⟩
abbrev S8x4096x1280 : Shape := ⟨3, ![8, 4096, 1280]⟩
abbrev S8192x1280 : Shape := ⟨2, ![8192, 1280]⟩
abbrev S32768x8192 : Shape := ⟨2, ![32768, 8192]⟩
abbrev S32768x1280 : Shape := ⟨2, ![32768, 1280]⟩
abbrev S1x1 : Shape := ⟨2, ![1, 1]⟩
abbrev S2048x1280 : Shape := ⟨2, ![2048, 1280]⟩
abbrev S16x1280 : Shape := ⟨2, ![16, 1280]⟩
abbrev S128x16x1280 : Shape := ⟨3, ![128, 16, 1280]⟩
abbrev S1x16x1280 : Shape := ⟨3, ![1, 16, 1280]⟩
abbrev S1 : Shape := ⟨1, ![1]⟩
abbrev S1x1x1 : Shape := ⟨3, ![1, 1, 1]⟩
abbrev S1x256 : Shape := ⟨2, ![1, 256]⟩
abbrev S2048x2048 : Shape := ⟨2, ![2048, 2048]⟩
abbrev S256x1280 : Shape := ⟨2, ![256, 1280]⟩
abbrev S2048x256 : Shape := ⟨2, ![2048, 256]⟩

abbrev nBuf : Space → Nat
  | .hbm => 13
  | .vmem => 14
  | .smem => 3
  | _ => 0

abbrev bufTy : (tb : Table) → Fin (tcTables nBuf tb) → BufTy
  | .hbm, ⟨0, _⟩ => ⟨S8x4096x8192, .fp8e4m3⟩
  | .hbm, ⟨1, _⟩ => ⟨S_, .f32⟩
  | .hbm, ⟨2, _⟩ => ⟨S8x4096x1280, .bf16⟩
  | .hbm, ⟨3, _⟩ => ⟨S8192x1280, .f32⟩
  | .hbm, ⟨4, _⟩ => ⟨S32768x8192, .fp8e4m3⟩
  | .hbm, ⟨5, _⟩ => ⟨S32768x1280, .bf16⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S8192x1280, .f32⟩
  | .hbm, ⟨10, _⟩ => ⟨S32768x1280, .fp8e5m2⟩
  | .hbm, ⟨11, _⟩ => ⟨S8x4096x1280, .fp8e5m2⟩
  | .hbm, ⟨12, _⟩ => ⟨S_, .f32⟩
  | .local _ .vmem, ⟨0, _⟩ => ⟨S2048x1280, .bf16⟩
  | .local _ .vmem, ⟨1, _⟩ => ⟨S2048x1280, .bf16⟩
  | .local _ .vmem, ⟨2, _⟩ => ⟨S1x1, .f32⟩
  | .local _ .vmem, ⟨3, _⟩ => ⟨S1x1, .f32⟩
  | .local _ .vmem, ⟨4, _⟩ => ⟨S16x1280, .bf16⟩
  | .local _ .vmem, ⟨5, _⟩ => ⟨S2048x1280, .f32⟩
  | .local _ .vmem, ⟨6, _⟩ => ⟨S2048x2048, .fp8e4m3⟩
  | .local _ .vmem, ⟨7, _⟩ => ⟨S2048x2048, .fp8e4m3⟩
  | .local _ .vmem, ⟨8, _⟩ => ⟨S2048x1280, .bf16⟩
  | .local _ .vmem, ⟨9, _⟩ => ⟨S2048x1280, .bf16⟩
  | .local _ .vmem, ⟨10, _⟩ => ⟨S2048x1280, .f32⟩
  | .local _ .vmem, ⟨11, _⟩ => ⟨S2048x1280, .f32⟩
  | .local _ .vmem, ⟨12, _⟩ => ⟨S2048x1280, .fp8e5m2⟩
  | .local _ .vmem, ⟨13, _⟩ => ⟨S2048x1280, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S2048x2048 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x1280 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S2048x1280 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x1280 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8x4096x8192 : Shape := ⟨3, ![8, 4096, 8192]⟩
abbrev S_ : Shape := ⟨0, ![]⟩
abbrev S8x4096x1280 : Shape := ⟨3, ![8, 4096, 1280]⟩
abbrev S8192x1280 : Shape := ⟨2, ![8192, 1280]⟩
abbrev S32768x8192 : Shape := ⟨2, ![32768, 8192]⟩
abbrev S1x1 : Shape := ⟨2, ![1, 1]⟩
abbrev S32768x1280 : Shape := ⟨2, ![32768, 1280]⟩
abbrev S1x32768x1280 : Shape := ⟨3, ![1, 32768, 1280]⟩
abbrev S1 : Shape := ⟨1, ![1]⟩
abbrev S1x1x1 : Shape := ⟨3, ![1, 1, 1]⟩
abbrev S1x240 : Shape := ⟨2, ![1, 240]⟩
abbrev S1x1x240 : Shape := ⟨3, ![1, 1, 240]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x8192, .fp8e4m3⟩
  | .hbm, ⟨1, _⟩ => ⟨S_, .f32⟩
  | .hbm, ⟨2, _⟩ => ⟨S8x4096x1280, .bf16⟩
  | .hbm, ⟨3, _⟩ => ⟨S8192x1280, .f32⟩
  | .hbm, ⟨4, _⟩ => ⟨S32768x8192, .fp8e4m3⟩
  | .hbm, ⟨5, _⟩ => ⟨S1x1, .f32⟩
  | .hbm, ⟨6, _⟩ => ⟨S32768x1280, .bf16⟩
  | .hbm, ⟨7, _⟩ => ⟨S8192x1280, .f32⟩
  | .hbm, ⟨8, _⟩ => ⟨S32768x1280, .fp8e5m2⟩
  | .hbm, ⟨9, _⟩ => ⟨S1x1, .f32⟩
  | .hbm, ⟨10, _⟩ => ⟨S8x4096x1280, .fp8e5m2⟩
  | .hbm, ⟨11, _⟩ => ⟨S_, .f32⟩
  | .local _ .vmem, ⟨0, _⟩ => ⟨S32768x8192, .fp8e4m3⟩
  | .local _ .vmem, ⟨1, _⟩ => ⟨S1x1, .f32⟩
  | .local _ .vmem, ⟨2, _⟩ => ⟨S32768x1280, .bf16⟩
  | .local _ .vmem, ⟨3, _⟩ => ⟨S8192x1280, .f32⟩
  | .local _ .vmem, ⟨4, _⟩ => ⟨S8192x1280, .f32⟩
  | .local _ .vmem, ⟨5, _⟩ => ⟨S32768x1280, .fp8e5m2⟩
  | .local _ .vmem, ⟨6, _⟩ => ⟨S1x1, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x1280 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelAmax.lean ====
/- The first kernel region, `dy_amax`, over any entry contents `V`: its blocks, its three cases' runs, its proof data with the
   carried running maximum, and its body obligation.  -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x1280 .bf16 := Memref.whole cc0_scratch0
/-- The scratch `arg4` the kernel carries between points, as a view: what it holds is stated through it. -/
abbrev VS0_0 : View sig .tc .vmem S16x1280 .bf16 := scM0_0.view

/-- Separating conjunction is associative, as an equality. -/
theorem sep_assoc_eq0 (P Q R : sProp (MT nD τ sig Unit (Elt F) ℕ (UR sig nD τ) ℕ)) : iprop((P ∗ Q) ∗ R) = iprop(P ∗ Q ∗ R) := equiv_iff.mp ⟨BI.sep_assoc, BI.sep_assoc'⟩

/-- What the region holds beside its carried scratch: the other region's staging buffers, each at some contents, and the
    generator register at some state. -/
def beside0 (c : Dev nD) : sProp (MT nD τ sig Unit (Elt F) ℕ (UR sig nD τ) ℕ) :=
  iprop(((∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop((∃ d, owns (c : Thread nD τ) scM0_0 fullShare d) ∗ beside0 c) := by
  unfold Pipeline.ΦA beside0; rw [scopedRest0_eq, sep_assoc_eq0]; simp only [scM0_0, owns_whole]; rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp (MT nD τ sig Unit (Elt F) ℕ (UR sig nD τ) ℕ)),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp (MT nD τ sig Unit (Elt F) ℕ (UR sig nD τ) ℕ)),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (E : Set ℕ) (K : PUnit → sProp (MT nD τ sig Unit (Elt F) ℕ (UR sig nD τ) ℕ)),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x1280` tiling it (Lib/Ring.lean `Piece.tiledL`). -/
theorem scover0_A_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) (y : S16x1280.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x1280.size (by sl_kernel_rfl) y

/-- What case A leaves in scratch `arg4`: its pieces read back over junk. -/
def sout0_A_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S16x1280 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x1280` tiling it (Lib/Ring.lean `Piece.tiledL`). -/
theorem scover0_B_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) (y : S16x1280.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x1280.size (by sl_kernel_rfl) y

/-- What case B leaves in scratch `arg4`: its pieces read back over junk. -/
def sout0_B_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S16x1280 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x1280` tiling it (Lib/Ring.lean `Piece.tiledL`). -/
theorem scover0_C_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S16x1280.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x1280.size (by sl_kernel_rfl) y

/-- What case C leaves in scratch `arg4`: its pieces read back over junk. -/
def sout0_C_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S16x1280 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x1280 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 16 = 15 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) (h2 : ¬t.val % 16 = 15) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 16 = 0) (h1 : 1 ≤ t.val) (h2 : ¬t.val % 16 = 15) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : 1 ≤ t.val) (h2 : t.val % 16 = 15) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2.2)) ∗ beside0 c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ beside0 c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ beside0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 16 := lt_of_lt_of_eq t.isLt (show cfg0.N = 16 from N_0); omega
  · by_cases h1 : 1 ≤ t.val
    · by_cases h2 : t.val % 16 = 15
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 16 := lt_of_lt_of_eq t.isLt (show cfg0.N = 16 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out V c _ (by rw [Fin.val_last]; have : cfg0.N = 16 := N_0; omega)

end Cert.Kernel.Run

end
-- ==== Proof.KernelMatmul.lean ====
/- The second kernel region, `dw_matmul`, over any entry contents `V`: its blocks, its three cases' runs, its proof data and
   its body obligation.  -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (V : (c : Dev nD) → (b : Ref sig .tc) → Buf (Elt F) ((c : Thread nD τ).loc b))
/-! # REGION 1 of @main: custom_call 1, `cc1_dw_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16) — by arithmetic of the point. -/
theorem hcond1_0 : ∀ t : Fin cfg1.N, cond1_0 (grid1.coords t) ↔ t.val % 16 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 15#32)) 0#32) = 1#1
/-- It holds at the points ≡ 15 (mod 16) — by arithmetic of the point. -/
theorem hcond1_1 : ∀ t : Fin cfg1.N, cond1_1 (grid1.coords t) ↔ t.val % 16 = 15 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_1, e0, e1]
    word_cmp
   : ∀ t : Fin grid1.N, cond1_1 (grid1.coords t) ↔ t.val % 16 = 15)

/-! ## The kernel body on any staging memrefs: a subtype the run finds -/

/-- One staging buffer of output window 6, through which its contents are stated (`View.read_writes_of_cover`: the
    choice does not matter). -/
abbrev VO1_6 : View sig .tc .vmem S2048x1280 .f32 := (Memref.whole cc1_stg6_0 : Memref sig .tc .vmem S2048x1280 .f32).view
/-- One staging buffer of output window 7, through which its contents are stated (`View.read_writes_of_cover`: the
    choice does not matter). -/
abbrev VO1_7 : View sig .tc .vmem S2048x1280 .fp8e5m2 := (Memref.whole cc1_stg7_0 : Memref sig .tc .vmem S2048x1280 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x2048 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1280 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1280 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, 32, 48), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case A's pieces for output 6 are of SEVERAL sizes (9 stores of `S2048x1280`, `S256x1280`): cut into blocks of `![256, 1280]` they tile its block (checked by the kernel's evaluation: Lib/Ring.lean `Piece.tiledBy`), so they cover it. -/
theorem cover1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (y : S2048x1280.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledBy (kernelRun1_A c i arg2 harg2 arg3 harg3 arg4 harg4 arg5 harg5 arg6 harg6 arg7 harg7 arg8 harg8 arg9 harg9 hc0 hc1 x0 x1 x2 x3 x4 x5).1 ![256, 1280] (by sl_kernel_rfl) y

/-- What case A leaves in output 6's staging buffer: its pieces read back over junk. -/
def out1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) : Vec F S2048x1280 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for output 7 tile its block (1 store of `S2048x1280`, checked by the kernel's evaluation: Lib/Ring.lean `Piece.tiledL`, linear in the pieces, through a loop's `@[irreducible]` trip theorem too), so they cover it. -/
theorem cover1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (y : S2048x1280.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x1280.size (by sl_kernel_rfl) y

/-- What case A leaves in output 7's staging buffer: its pieces read back over junk. -/
def out1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) : Vec F S2048x1280 .fp8e5m2 :=
  VO1_7.read (Elt F) (VO1_7.writes (Elt F) VO1_7.junk (kernelRun1_A c i arg2 harg2 arg3 harg3 arg4 harg4 arg5 harg5 arg6 harg6 arg7 harg7 arg8 harg8 arg9 harg9 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 56 of 64), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case B's pieces for output 6 tile its block (8 stores of `S256x1280`, checked by the kernel's evaluation: Lib/Ring.lean `Piece.tiledL`, linear in the pieces, through a loop's `@[irreducible]` trip theorem too), so they cover it. -/
theorem cover1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_B c i arg2 harg2 arg3 harg3 arg4 harg4 arg5 harg5 arg6 harg6 arg7 harg7 arg8 harg8 arg9 harg9 hc0 hc1 x0 x1 x2 x3 x4 x5 xo6).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo6).1 S256x1280.size (by sl_kernel_rfl) y

/-- What case B leaves in output 6's staging buffer: its pieces read back over junk. -/
def out1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xo6).1)

/-- Case B's pieces for output 7 tile its block (1 store of `S2048x1280`, checked by the kernel's evaluation: Lib/Ring.lean `Piece.tiledL`, linear in the pieces, through a loop's `@[irreducible]` trip theorem too), so they cover it. -/
theorem cover1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_B c i arg2 harg2 arg3 harg3 arg4 harg4 arg5 harg5 arg6 harg6 arg7 harg7 arg8 harg8 arg9 harg9 hc0 hc1 x0 x1 x2 x3 x4 x5 xo6).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo6).2.1 S2048x1280.size (by sl_kernel_rfl) y

/-- What case B leaves in output 7's staging buffer: its pieces read back over junk. -/
def out1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .fp8e5m2 :=
  VO1_7.read (Elt F) (VO1_7.writes (Elt F) VO1_7.junk (kernelRun1_B c i arg2 harg2 arg3 harg3 arg4 harg4 arg5 harg5 arg6 harg6 arg7 harg7 arg8 harg8 arg9 harg9 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, 47, 63), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case C's pieces for output 6 are of SEVERAL sizes (9 stores of `S2048x1280`, `S256x1280`): cut into blocks of `![256, 1280]` they tile its block (checked by the kernel's evaluation: Lib/Ring.lean `Piece.tiledBy`), so they cover it. -/
theorem cover1_C_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_C c i arg2 harg2 arg3 harg3 arg4 harg4 arg5 harg5 arg6 harg6 arg7 harg7 arg8 harg8 arg9 harg9 hc0 hc1 x0 x1 x2 x3 x4 x5 xo6).1, y ∈ pc.1.set :=
  View.cover_of_tiledBy (kernelRun1_C c i arg2 harg2 arg3 harg3 arg4 harg4 arg5 harg5 arg6 harg6 arg7 harg7 arg8 harg8 arg9 harg9 hc0 hc1 x0 x1 x2 x3 x4 x5 xo6).1 ![256, 1280] (by sl_kernel_rfl) y

/-- What case C leaves in output 6's staging buffer: its pieces read back over junk. -/
def out1_C_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xo6).1)

/-- Case C's pieces for output 7 tile its block (1 store of `S2048x1280`, checked by the kernel's evaluation: Lib/Ring.lean `Piece.tiledL`, linear in the pieces, through a loop's `@[irreducible]` trip theorem too), so they cover it. -/
theorem cover1_C_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_C c i arg2 harg2 arg3 harg3 arg4 harg4 arg5 harg5 arg6 harg6 arg7 harg7 arg8 harg8 arg9 harg9 hc0 hc1 x0 x1 x2 x3 x4 x5 xo6).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xo6).2.1 S2048x1280.size (by sl_kernel_rfl) y

/-- What case C leaves in output 7's staging buffer: its pieces read back over junk. -/
def out1_C_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .fp8e5m2 :=
  VO1_7.read (Elt F) (VO1_7.writes (Elt F) VO1_7.junk (kernelRun1_C c i arg2 harg2 arg3 harg3 arg4 harg4 arg5 harg5 arg6 harg6 arg7 harg7 arg8 harg8 arg9 harg9 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1280 .f32 × Vec F S2048x1280 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by have hN : n + 1 < 64 := lt_of_lt_of_eq hn (show cfg1.N = 64 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 16 = 0) (h1 : ¬t.val % 16 = 15) (d) :
    (dat1 V c).before 6 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 16 = 0) (h1 : t.val % 16 = 15) (d) :
    (dat1 V c).before 6 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 64 := lt_of_lt_of_eq t.isLt (show cfg1.N = 64 from N_1)
  by_cases h0 : t.val % 16 = 0
  · by_cases h1 : t.val % 16 = 15
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 16 = 15
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.KernelRun.lean ====
/- The whole run of @main: host stretches and the two regions as segments, the final contents of every buffer (`run_main`)
   and the frame.  -/
module

public import proofs.«01_k».proof.Proof.KernelAmax
public import proofs.«01_k».proof.Proof.KernelMatmul
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    have h := (show (pdats m ρ 0 c).Φ (Fin.last _) ⊢ Pipeline.ΦA spec0 c from hout0 (V1 m ρ) c)
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: at the compiled mesh, from any memory with zero counters, every weakly fair execution of @main
    terminates, nothing faulting, and every final state has every unscoped buffer at the last boundary's contents `W5` and
    every semaphore counter of the machine at zero. -/
theorem run_main : θ_run defs (onTc (τ := τ) (main (F := F))) ⟨m, fun _ => 0, ρ⟩ (fun r => (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME at any `F`: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_main m ρ)

end Cert.Kernel.Run

end
-- ==== Proof.IdealAmax.lean ====
/- The first kernel region, `dy_amax`, over any entry contents `V`: its blocks, its three cases' runs, its proof data with the
   carried running maximum, and its body obligation.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x1280 .bf16 := Memref.whole cc0_scratch0
/-- The scratch `arg4` the kernel carries between points, as a view: what it holds is stated through it. -/
abbrev VS0_0 : View sig .tc .vmem S16x1280 .bf16 := scM0_0.view

/-- Separating conjunction is associative, as an equality. -/
theorem sep_assoc_eq0 (P Q R : sProp (MT nD τ sig Unit (Elt F) ℕ (UR sig nD τ) ℕ)) : iprop((P ∗ Q) ∗ R) = iprop(P ∗ Q ∗ R) := equiv_iff.mp ⟨BI.sep_assoc, BI.sep_assoc'⟩

/-- What the region holds beside its carried scratch: the other region's staging buffers, each at some contents, and the
    generator register at some state. -/
def beside0 (c : Dev nD) : sProp (MT nD τ sig Unit (Elt F) ℕ (UR sig nD τ) ℕ) :=
  iprop(((∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop((∃ d, owns (c : Thread nD τ) scM0_0 fullShare d) ∗ beside0 c) := by
  unfold Pipeline.ΦA beside0; rw [scopedRest0_eq, sep_assoc_eq0]; simp only [scM0_0, owns_whole]; rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp (MT nD τ sig Unit (Elt F) ℕ (UR sig nD τ) ℕ)),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 14: 14 of 16), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (xi1 : Vec F S1x1 .f32) (xi2 : Vec F S1x1 .f32) (E : Set ℕ) (K : PUnit → sProp (MT nD τ sig Unit (Elt F) ℕ (UR sig nD τ) ℕ)),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) :
    Σ' (L1 : List (View.Piece (Elt F) S1x1 .f32)), Σ' (L2 : List (View.Piece (Elt F) S1x1 .f32)), { LS0 : List (View.Piece (Elt F) S16x1280 .bf16) //
      ∀ (E : Set ℕ) (K : PUnit → sProp (MT nD τ sig Unit (Elt F) ℕ (UR sig nD τ) ℕ)),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S1x1 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S1x1 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S16x1280` tiling it (Lib/Ring.lean `Piece.tiledL`). -/
theorem scover0_A_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) (y : S16x1280.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x1280.size (by sl_kernel_rfl) y

/-- What case A leaves in scratch `arg4`: its pieces read back over junk. -/
def sout0_A_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : cond0_0 i) (hc1 : ¬cond0_1 i) (hc2 : ¬cond0_2 i)
    (x0 : Vec F S2048x1280 .bf16) : Vec F S16x1280 .bf16 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S1x1 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S1x1 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S16x1280` tiling it (Lib/Ring.lean `Piece.tiledL`). -/
theorem scover0_B_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) (y : S16x1280.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x1280.size (by sl_kernel_rfl) y

/-- What case B leaves in scratch `arg4`: its pieces read back over junk. -/
def sout0_B_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : ¬cond0_2 i)
    (x0 : Vec F S2048x1280 .bf16) (xs0 : Vec F S16x1280 .bf16) : Vec F S16x1280 .bf16 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S1x1.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S1x1.size (by sl_kernel_rfl) y

/-- What case C leaves in output 1's staging buffer: its pieces read back over junk. -/
def out0_C_1 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S1x1 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S1x1.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S1x1.size (by sl_kernel_rfl) y

/-- What case C leaves in output 2's staging buffer: its pieces read back over junk. -/
def out0_C_2 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S1x1 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S16x1280` tiling it (Lib/Ring.lean `Piece.tiledL`). -/
theorem scover0_C_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) (y : S16x1280.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x1280.size (by sl_kernel_rfl) y

/-- What case C leaves in scratch `arg4`: its pieces read back over junk. -/
def sout0_C_0 (c : Dev nD) (i : grid0.Coords) (arg1 : Memref sig .tc .vmem S2048x1280 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S16x1280 .bf16) (harg4 : arg4.IsWhole) (hc0 : ¬cond0_0 i) (hc1 : cond0_1 i) (hc2 : cond0_2 i)
    (x0 : Vec F S2048x1280 .bf16) (xs0 : Vec F S16x1280 .bf16) : Vec F S16x1280 .bf16 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x1280 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 16 = 15 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val) (h2 : ¬t.val % 16 = 15) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 16 = 0) (h1 : 1 ≤ t.val) (h2 : ¬t.val % 16 = 15) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : 1 ≤ t.val) (h2 : t.val % 16 = 15) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2.2)) ∗ beside0 c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ beside0 c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ beside0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 16 := lt_of_lt_of_eq t.isLt (show cfg0.N = 16 from N_0); omega
  · by_cases h1 : 1 ≤ t.val
    · by_cases h2 : t.val % 16 = 15
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 16 := lt_of_lt_of_eq t.isLt (show cfg0.N = 16 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out V c _ (by rw [Fin.val_last]; have : cfg0.N = 16 := N_0; omega)

end Cert.KernelIdeal.Run

end
-- ==== Proof.IdealMatmul.lean ====
/- The second kernel region, `dw_matmul`, over any entry contents `V`: its blocks, its three cases' runs, its proof data and
   its body obligation.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (V : (c : Dev nD) → (b : Ref sig .tc) → Buf (Elt F) ((c : Thread nD τ).loc b))
/-! # REGION 1 of @main: custom_call 1, `cc1_dw_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16) — by arithmetic of the point. -/
theorem hcond1_0 : ∀ t : Fin cfg1.N, cond1_0 (grid1.coords t) ↔ t.val % 16 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := (Scalar.cmpi .ne (Scalar.extui (Scalar.cmpi .eq (BitVec.ofNat 32 (i 1).val) 15#32)) 0#32) = 1#1
/-- It holds at the points ≡ 15 (mod 16) — by arithmetic of the point. -/
theorem hcond1_1 : ∀ t : Fin cfg1.N, cond1_1 (grid1.coords t) ↔ t.val % 16 = 15 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_1, e0, e1]
    word_cmp
   : ∀ t : Fin grid1.N, cond1_1 (grid1.coords t) ↔ t.val % 16 = 15)

/-! ## The kernel body on any staging memrefs: a subtype the run finds -/

/-- One staging buffer of output window 6, through which its contents are stated (`View.read_writes_of_cover`: the
    choice does not matter). -/
abbrev VO1_6 : View sig .tc .vmem S2048x1280 .f32 := (Memref.whole cc1_stg6_0 : Memref sig .tc .vmem S2048x1280 .f32).view
/-- One staging buffer of output window 7, through which its contents are stated (`View.read_writes_of_cover`: the
    choice does not matter). -/
abbrev VO1_7 : View sig .tc .vmem S2048x1280 .fp8e5m2 := (Memref.whole cc1_stg7_0 : Memref sig .tc .vmem S2048x1280 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x2048 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1280 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1280 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, 32, 48), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case A's pieces for output 6 are of SEVERAL sizes (9 stores of `S2048x1280`, `S256x1280`): cut into blocks of `![256, 1280]` they tile its block (checked by the kernel's evaluation: Lib/Ring.lean `Piece.tiledBy`), so they cover it. -/
theorem cover1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (y : S2048x1280.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledBy (kernelRun1_A c i arg2 harg2 arg3 harg3 arg4 harg4 arg5 harg5 arg6 harg6 arg7 harg7 arg8 harg8 arg9 harg9 hc0 hc1 x0 x1 x2 x3 x4 x5).1 ![256, 1280] (by sl_kernel_rfl) y

/-- What case A leaves in output 6's staging buffer: its pieces read back over junk. -/
def out1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) : Vec F S2048x1280 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for output 7 tile its block (1 store of `S2048x1280`, checked by the kernel's evaluation: Lib/Ring.lean `Piece.tiledL`, linear in the pieces, through a loop's `@[irreducible]` trip theorem too), so they cover it. -/
theorem cover1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (y : S2048x1280.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2048x1280.size (by sl_kernel_rfl) y

/-- What case A leaves in output 7's staging buffer: its pieces read back over junk. -/
def out1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) : Vec F S2048x1280 .fp8e5m2 :=
  VO1_7.read (Elt F) (VO1_7.writes (Elt F) VO1_7.junk (kernelRun1_A c i arg2 harg2 arg3 harg3 arg4 harg4 arg5 harg5 arg6 harg6 arg7 harg7 arg8 harg8 arg9 harg9 hc0 hc1 x0 x1 x2 x3 x4 x5).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 56 of 64), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case B's pieces for output 6 tile its block (8 stores of `S256x1280`, checked by the kernel's evaluation: Lib/Ring.lean `Piece.tiledL`, linear in the pieces, through a loop's `@[irreducible]` trip theorem too), so they cover it. -/
theorem cover1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_B c i arg2 harg2 arg3 harg3 arg4 harg4 arg5 harg5 arg6 harg6 arg7 harg7 arg8 harg8 arg9 harg9 hc0 hc1 x0 x1 x2 x3 x4 x5 xo6).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo6).1 S256x1280.size (by sl_kernel_rfl) y

/-- What case B leaves in output 6's staging buffer: its pieces read back over junk. -/
def out1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xo6).1)

/-- Case B's pieces for output 7 tile its block (1 store of `S2048x1280`, checked by the kernel's evaluation: Lib/Ring.lean `Piece.tiledL`, linear in the pieces, through a loop's `@[irreducible]` trip theorem too), so they cover it. -/
theorem cover1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_B c i arg2 harg2 arg3 harg3 arg4 harg4 arg5 harg5 arg6 harg6 arg7 harg7 arg8 harg8 arg9 harg9 hc0 hc1 x0 x1 x2 x3 x4 x5 xo6).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo6).2.1 S2048x1280.size (by sl_kernel_rfl) y

/-- What case B leaves in output 7's staging buffer: its pieces read back over junk. -/
def out1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : ¬cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .fp8e5m2 :=
  VO1_7.read (Elt F) (VO1_7.writes (Elt F) VO1_7.junk (kernelRun1_B c i arg2 harg2 arg3 harg3 arg4 harg4 arg5 harg5 arg6 harg6 arg7 harg7 arg8 harg8 arg9 harg9 hc0 hc1 x0 x1 x2 x3 x4 x5 xo6).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, 47, 63), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) :
    Σ' (L6 : List (View.Piece (Elt F) S2048x1280 .f32)), { L7 : List (View.Piece (Elt F) S2048x1280 .fp8e5m2) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_dw_matmul i arg2 harg2 arg3 harg3 arg4 harg4 arg5 harg5 arg6 harg6 arg7 harg7 arg8 harg8 arg9 harg9) K } := by
  refine ⟨?_, ?_, fun E K => ?run⟩
  case run =>
    simp only [cc1_dw_matmul_eq_skeleton]; unfold cc1_dw_matmul_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case C's pieces for output 6 are of SEVERAL sizes (9 stores of `S2048x1280`, `S256x1280`): cut into blocks of `![256, 1280]` they tile its block (checked by the kernel's evaluation: Lib/Ring.lean `Piece.tiledBy`), so they cover it. -/
theorem cover1_C_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_C c i arg2 harg2 arg3 harg3 arg4 harg4 arg5 harg5 arg6 harg6 arg7 harg7 arg8 harg8 arg9 harg9 hc0 hc1 x0 x1 x2 x3 x4 x5 xo6).1, y ∈ pc.1.set :=
  View.cover_of_tiledBy (kernelRun1_C c i arg2 harg2 arg3 harg3 arg4 harg4 arg5 harg5 arg6 harg6 arg7 harg7 arg8 harg8 arg9 harg9 hc0 hc1 x0 x1 x2 x3 x4 x5 xo6).1 ![256, 1280] (by sl_kernel_rfl) y

/-- What case C leaves in output 6's staging buffer: its pieces read back over junk. -/
def out1_C_6 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xo6).1)

/-- Case C's pieces for output 7 tile its block (1 store of `S2048x1280`, checked by the kernel's evaluation: Lib/Ring.lean `Piece.tiledL`, linear in the pieces, through a loop's `@[irreducible]` trip theorem too), so they cover it. -/
theorem cover1_C_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) (y : S2048x1280.Idx) :
    ∃ pc ∈ (kernelRun1_C c i arg2 harg2 arg3 harg3 arg4 harg4 arg5 harg5 arg6 harg6 arg7 harg7 arg8 harg8 arg9 harg9 hc0 hc1 x0 x1 x2 x3 x4 x5 xo6).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xo6).2.1 S2048x1280.size (by sl_kernel_rfl) y

/-- What case C leaves in output 7's staging buffer: its pieces read back over junk. -/
def out1_C_7 (c : Dev nD) (i : grid1.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2048x1280 .f32) (harg5 : arg5.IsWhole) (arg6 : Memref sig .tc .vmem S2048x2048 .fp8e4m3) (harg6 : arg6.IsWhole) (arg7 : Memref sig .tc .vmem S2048x1280 .bf16) (harg7 : arg7.IsWhole) (arg8 : Memref sig .tc .vmem S2048x1280 .f32) (harg8 : arg8.IsWhole) (arg9 : Memref sig .tc .vmem S2048x1280 .fp8e5m2) (harg9 : arg9.IsWhole) (hc0 : ¬cond1_0 i) (hc1 : cond1_1 i)
    (x0 : Vec F S1x1 .f32) (x1 : Vec F S1x1 .f32) (x2 : Vec F S1x1 .f32) (x3 : Vec F S2048x1280 .f32) (x4 : Vec F S2048x2048 .fp8e4m3) (x5 : Vec F S2048x1280 .bf16) (xo6 : Vec F S2048x1280 .f32) : Vec F S2048x1280 .fp8e5m2 :=
  VO1_7.read (Elt F) (VO1_7.writes (Elt F) VO1_7.junk (kernelRun1_C c i arg2 harg2 arg3 harg3 arg4 harg4 arg5 harg5 arg6 harg6 arg7 harg7 arg8 harg8 arg9 harg9 hc0 hc1 x0 x1 x2 x3 x4 x5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x1280 .f32 × Vec F S2048x1280 .fp8e5m2
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by have hN : n + 1 < 64 := lt_of_lt_of_eq hn (show cfg1.N = 64 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).1)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 16 = 0) (h1 : ¬t.val % 16 = 15) (d) :
    (dat1 V c).before 6 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]
/-- At a point of case C output 6's current staging buffer holds what the body left at the point before: the point is
    not the first, the buffer was not written back between (`flush1_6`), the window is live and uncut (Lib/Pipeline/Frame.lean
    `Dat.before_out_kept`). -/
theorem before1_6_C (c : Dev nD) (t : Fin cfg1.N) (h0 : ¬t.val % 16 = 0) (h1 : t.val % 16 = 15) (d) :
    (dat1 V c).before 6 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 64 := lt_of_lt_of_eq t.isLt (show cfg1.N = 64 from N_1)
  by_cases h0 : t.val % 16 = 0
  · by_cases h1 : t.val % 16 = 15
    · exfalso; omega
    · rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : t.val % 16 = 15
    · rw [outsAt1_C V c t h0 h1]
      simp only [before1_6_C V c t h0 h1]
      unfold out1_C_6 out1_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · rw [outsAt1_B V c t h0 h1]
      simp only [before1_6_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.IdealRun.lean ====
/- The whole run of @main: host stretches and the two regions as segments, the final contents of every buffer (`run_main`)
   and the frame.  -/
module

public import proofs.«01_k».proof.Proof.IdealAmax
public import proofs.«01_k».proof.Proof.IdealMatmul
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    have h := (show (pdats m ρ 0 c).Φ (Fin.last _) ⊢ Pipeline.ΦA spec0 c from hout0 (V1 m ρ) c)
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: at the compiled mesh, from any memory with zero counters, every weakly fair execution of @main
    terminates, nothing faulting, and every final state has every unscoped buffer at the last boundary's contents `W5` and
    every semaphore counter of the machine at zero. -/
theorem run_main : θ_run defs (onTc (τ := τ) (main (F := F))) ⟨m, fun _ => 0, ρ⟩ (fun r => (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME at any `F`: the argument arrays end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_main m ρ)

end Cert.KernelIdeal.Run

end
-- ==== Proof.IdealMatmulValue.lean ====
module

public import proofs.«01_k».proof.Proof.IdealRun
public import Idealize.ShloMosaic.Lib.Pipeline.Value
public import Idealize.ShloMosaic.Lib.Pipeline.RowLoads
public import Idealize.ShloMosaic.Lib.Pointwise
public import Idealize.ShloMosaic.Lib.Tactic

@[expose] public section

noncomputable section

namespace Cert.KernelIdeal.Run

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a rank-2 rectangle, as the constant function. -/
theorem hzz2 : (![0, 0] : Fin 2 → Nat) = fun _ => 0 := funext fun a => by fin_cases a <;> rfl

/-- What one of the eight row chunks of the accumulator becomes: the chunk plus a product. -/
def chunk (v : Vec F S256x1280 .f32) (x : Vec F S2048x256 .fp8e4m3) (q : Vec F S2048x1280 .fp8e5m2) : FVec F S256x1280 .f32 :=
  addf v (matmul dot_S2048x256_S2048x1280_S256x1280_0_0_1_1_n_n none x q (constant S256x1280 .f32 0x00000000#32))

theorem pay4_eq (v : Vec F S256x1280 .f32) (x : Vec F S2048x256 .fp8e4m3) (q : Vec F S2048x1280 .fp8e5m2) : k1_pay4 v x q = chunk v x q := by
  unfold k1_pay4 chunk; simp only [shapeCast_self]
theorem pay7_eq (v : Vec F S256x1280 .f32) (x : Vec F S2048x256 .fp8e4m3) (q : Vec F S2048x1280 .fp8e5m2) :
    k1_pay7 (k1_pay5 v) (k1_pay6 x) q = chunk v x q := by
  unfold k1_pay7 k1_pay5 k1_pay6 chunk; simp only [shapeCast_self]
theorem pay8_eq (v : Vec F S256x1280 .f32) (x : Vec F S2048x256 .fp8e4m3) (q : Vec F S2048x1280 .fp8e5m2) : k1_pay8 v x q = chunk v x q := by
  unfold k1_pay8 chunk; simp only [shapeCast_self]
theorem pay9_eq (v : Vec F S256x1280 .f32) (x : Vec F S2048x256 .fp8e4m3) (q : Vec F S2048x1280 .fp8e5m2) : k1_pay9 v x q = chunk v x q := by
  unfold k1_pay9 chunk; simp only [shapeCast_self]
theorem pay13_eq (v : Vec F S256x1280 .f32) (x : Vec F S2048x256 .fp8e4m3) (q : Vec F S2048x1280 .fp8e5m2) :
    k1_pay13 (k1_pay10 v) (k1_pay11 x) (k1_pay12 q) (constant S256x1280 .f32 0x00000000#32) = chunk v x q := by
  unfold k1_pay13 k1_pay10 k1_pay11 k1_pay12 chunk; simp only [shapeCast_self]
theorem pay14_eq (v : Vec F S256x1280 .f32) (x : Vec F S2048x256 .fp8e4m3) (q : Vec F S2048x1280 .fp8e5m2) : k1_pay14 v x q = chunk v x q := by
  unfold k1_pay14 chunk; simp only [shapeCast_self]
theorem pay15_eq (v : Vec F S256x1280 .f32) (x : Vec F S2048x256 .fp8e4m3) (q : Vec F S2048x1280 .fp8e5m2) : k1_pay15 v x q = chunk v x q := by
  unfold k1_pay15 chunk; simp only [shapeCast_self]
theorem pay16_eq (v : Vec F S256x1280 .f32) (x : Vec F S2048x256 .fp8e4m3) (q : Vec F S2048x1280 .fp8e5m2) : k1_pay16 v x q = chunk v x q := by
  unfold k1_pay16 chunk; simp only [shapeCast_self]

/-- Pieces that agree with `G` and cover an index decide the contents there, whatever older pieces lie under them. -/
theorem canon_append_of_pieces {S : Shape} {e : EltTy} (G : S.Idx → Elt F e) (R : List (View.Piece (Elt F) S e)) :
    ∀ (L : List (View.Piece (Elt F) S e)) (_ : ∀ p ∈ L, ∀ x : p.1.shape.Idx, p.2 x = G (p.1.emb x)) (y : S.Idx)
      (_ : ∃ p ∈ L, y ∈ p.1.set), View.canon (L ++ R) y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_append_of_pieces G R L (fun q hq => hL q (by simp [hq])) y ?_
      obtain ⟨q, hq, hqy⟩ := hy
      rcases List.mem_cons.mp hq with rfl | hq
      · exact absurd hqy hm
      · exact ⟨q, hq, hqy⟩

/-- The eight stored row chunks cover the block. -/
theorem canon_eight (G : Vec F S2048x1280 .f32) (R : List (View.Piece (Elt F) S2048x1280 .f32))
    (P0 P1 P2 P3 P4 P5 P6 P7 : Vec F S256x1280 .f32)
    (i0 : ∀ a, (![0, 0] : Fin 2 → Nat) a + S256x1280.size a ≤ S2048x1280.size a)
    (i1 : ∀ a, (![256, 0] : Fin 2 → Nat) a + S256x1280.size a ≤ S2048x1280.size a)
    (i2 : ∀ a, (![512, 0] : Fin 2 → Nat) a + S256x1280.size a ≤ S2048x1280.size a)
    (i3 : ∀ a, (![768, 0] : Fin 2 → Nat) a + S256x1280.size a ≤ S2048x1280.size a)
    (i4 : ∀ a, (![1024, 0] : Fin 2 → Nat) a + S256x1280.size a ≤ S2048x1280.size a)
    (i5 : ∀ a, (![1280, 0] : Fin 2 → Nat) a + S256x1280.size a ≤ S2048x1280.size a)
    (i6 : ∀ a, (![1536, 0] : Fin 2 → Nat) a + S256x1280.size a ≤ S2048x1280.size a)
    (i7 : ∀ a, (![1792, 0] : Fin 2 → Nat) a + S256x1280.size a ≤ S2048x1280.size a)
    (h0 : ∀ x, P0 x = G ((Rect.unit (s := S2048x1280) ![0, 0] S256x1280.size i0).emb x))
    (h1 : ∀ x, P1 x = G ((Rect.unit (s := S2048x1280) ![256, 0] S256x1280.size i1).emb x))
    (h2 : ∀ x, P2 x = G ((Rect.unit (s := S2048x1280) ![512, 0] S256x1280.size i2).emb x))
    (h3 : ∀ x, P3 x = G ((Rect.unit (s := S2048x1280) ![768, 0] S256x1280.size i3).emb x))
    (h4 : ∀ x, P4 x = G ((Rect.unit (s := S2048x1280) ![1024, 0] S256x1280.size i4).emb x))
    (h5 : ∀ x, P5 x = G ((Rect.unit (s := S2048x1280) ![1280, 0] S256x1280.size i5).emb x))
    (h6 : ∀ x, P6 x = G ((Rect.unit (s := S2048x1280) ![1536, 0] S256x1280.size i6).emb x))
    (h7 : ∀ x, P7 x = G ((Rect.unit (s := S2048x1280) ![1792, 0] S256x1280.size i7).emb x)) :
    View.canon (Val := Elt F) (⟨Rect.unit (s := S2048x1280) ![1792, 0] S256x1280.size i7, P7⟩ ::
      ⟨Rect.unit (s := S2048x1280) ![1536, 0] S256x1280.size i6, P6⟩ ::
      ⟨Rect.unit (s := S2048x1280) ![1280, 0] S256x1280.size i5, P5⟩ ::
      ⟨Rect.unit (s := S2048x1280) ![1024, 0] S256x1280.size i4, P4⟩ ::
      ⟨Rect.unit (s := S2048x1280) ![768, 0] S256x1280.size i3, P3⟩ ::
      ⟨Rect.unit (s := S2048x1280) ![512, 0] S256x1280.size i2, P2⟩ ::
      ⟨Rect.unit (s := S2048x1280) ![256, 0] S256x1280.size i1, P1⟩ ::
      ⟨Rect.unit (s := S2048x1280) ![0, 0] S256x1280.size i0, P0⟩ :: R) = G := by
  funext y
  refine canon_append_of_pieces G R [⟨Rect.unit (s := S2048x1280) ![1792, 0] S256x1280.size i7, P7⟩,
      ⟨Rect.unit (s := S2048x1280) ![1536, 0] S256x1280.size i6, P6⟩,
      ⟨Rect.unit (s := S2048x1280) ![1280, 0] S256x1280.size i5, P5⟩,
      ⟨Rect.unit (s := S2048x1280) ![1024, 0] S256x1280.size i4, P4⟩,
      ⟨Rect.unit (s := S2048x1280) ![768, 0] S256x1280.size i3, P3⟩,
      ⟨Rect.unit (s := S2048x1280) ![512, 0] S256x1280.size i2, P2⟩,
      ⟨Rect.unit (s := S2048x1280) ![256, 0] S256x1280.size i1, P1⟩,
      ⟨Rect.unit (s := S2048x1280) ![0, 0] S256x1280.size i0, P0⟩] ?_ y ?_
  · simp only [List.mem_cons, List.not_mem_nil, or_false, forall_eq_or_imp, forall_eq]
    exact ⟨h7, h6, h5, h4, h3, h2, h1, h0⟩
  · have key : ∀ (o : Nat) (inb : ∀ a, (![o, 0] : Fin 2 → Nat) a + S256x1280.size a ≤ S2048x1280.size a),
        o ≤ (y 0).val → (y 0).val < o + 256 → y ∈ (Rect.unit (s := S2048x1280) ![o, 0] S256x1280.size inb).set := by
      intro o inb hl hu
      rw [Rect.mem_set_unit]
      intro a
      have hy1 : (y 1).val < 1280 := (y 1).isLt
      fin_cases a
      · exact ⟨hl, hu⟩
      · exact ⟨Nat.zero_le _, by show (y 1).val < 0 + 1280; omega⟩
    have hy0 : (y 0).val < 2048 := (y 0).isLt
    have hc : (1792 ≤ (y 0).val ∧ (y 0).val < 1792 + 256) ∨ (1536 ≤ (y 0).val ∧ (y 0).val < 1536 + 256) ∨
        (1280 ≤ (y 0).val ∧ (y 0).val < 1280 + 256) ∨ (1024 ≤ (y 0).val ∧ (y 0).val < 1024 + 256) ∨
        (768 ≤ (y 0).val ∧ (y 0).val < 768 + 256) ∨ (512 ≤ (y 0).val ∧ (y 0).val < 512 + 256) ∨
        (256 ≤ (y 0).val ∧ (y 0).val < 256 + 256) ∨ (0 ≤ (y 0).val ∧ (y 0).val < 0 + 256) := by omega
    simp only [List.mem_cons, List.not_mem_nil, or_false, exists_eq_or_imp, exists_eq_left]
    exact hc.imp (fun h => key _ i7 h.1 h.2) <| Or.imp (fun h => key _ i6 h.1 h.2) <| Or.imp (fun h => key _ i5 h.1 h.2) <|
      Or.imp (fun h => key _ i4 h.1 h.2) <| Or.imp (fun h => key _ i3 h.1 h.2) <| Or.imp (fun h => key _ i2 h.1 h.2) <|
      Or.imp (fun h => key _ i1 h.1 h.2) (fun h => key _ i0 h.1 h.2)

/-- One chunk at an element: the old element plus the sum of the products of the block's 2048 rows. -/
theorem chunk_apply (v : Vec Ideal S256x1280 .f32) (x : Vec Ideal S2048x256 .fp8e4m3) (q : Vec Ideal S2048x1280 .fp8e5m2) (y : S256x1280.Idx) :
    chunk v x q y = v y + ∑ k : Fin 2048, x (ix2 k (y 0)) * q (ix2 k (y 1)) := by
  pointwise [chunk]

/-- The block product added to a block, at an element. -/
def accum (v : Vec Ideal S2048x1280 .f32) (x : Vec Ideal S2048x2048 .fp8e4m3) (q : Vec Ideal S2048x1280 .fp8e5m2) : Vec Ideal S2048x1280 .f32 :=
  fun y => v y + (∑ k : Fin 2048, x (ix2 k (y 0)) * q (ix2 k (y 1)) : EReal)

/-- A stored chunk is the matching rows of the block's update. -/
theorem chunk_ld (v : Vec Ideal S2048x1280 .f32) (x : Vec Ideal S2048x2048 .fp8e4m3) (q : Vec Ideal S2048x1280 .fp8e5m2) (o : Nat) (ho : o + 256 ≤ 2048)
    (iv : ∀ a, (![o, 0] : Fin 2 → Nat) a + S256x1280.size a ≤ S2048x1280.size a)
    (ix : ∀ a, (![0, o] : Fin 2 → Nat) a + S2048x256.size a ≤ S2048x2048.size a) (y : S256x1280.Idx) :
    chunk (View.ld (Val := Elt Ideal) v (Rect.unit (s := S2048x1280) ![o, 0] S256x1280.size iv))
      (View.ld (Val := Elt Ideal) x (Rect.unit (s := S2048x2048) ![0, o] S2048x256.size ix)) q y
      = accum v x q ((Rect.unit (s := S2048x1280) ![o, 0] S256x1280.size iv).emb y) := by
  rw [chunk_apply]
  unfold accum
  have e0 : ((Rect.unit (s := S2048x1280) ![o, 0] S256x1280.size iv).emb y 0).val = o + (y 0).val := by
    show o + 1 * _ = _; rw [Nat.one_mul]
  have e1 : ((Rect.unit (s := S2048x1280) ![o, 0] S256x1280.size iv).emb y 1).val = (y 1).val := by
    show 0 + 1 * _ = _; rw [Nat.one_mul, Nat.zero_add]
  refine congrArg₂ (fun a b : EReal => a + b) rfl (Finset.sum_congr rfl fun k _ => ?_)
  refine congrArg₂ (fun a b : EReal => a * b) ?_ ?_
  · refine congrArg x (funext fun a => Fin.ext ?_)
    fin_cases a
    · show 0 + 1 * _ = _; rw [Nat.one_mul, Nat.zero_add]; rfl
    · show o + 1 * _ = _; rw [Nat.one_mul]; exact e0.symm
  · refine congrArg q (funext fun a => Fin.ext ?_)
    fin_cases a
    · rfl
    · exact e1.symm

/-- The eight stored chunks make the block's update, whatever lies under them. -/
theorem eight (v : Vec Ideal S2048x1280 .f32) (x : Vec Ideal S2048x2048 .fp8e4m3) (q : Vec Ideal S2048x1280 .fp8e5m2)
    (R : List (View.Piece (Elt Ideal) S2048x1280 .f32)) :
    View.canon (Val := Elt Ideal) (
      ⟨Rect.unit (s := S2048x1280) ![1792, 0] S256x1280.size inb_S2048x1280_S256x1280_1792_0,
        chunk (View.ld (Val := Elt Ideal) v (Rect.unit (s := S2048x1280) ![1792, 0] S256x1280.size inb_S2048x1280_S256x1280_1792_0))
          (View.ld (Val := Elt Ideal) x (Rect.unit (s := S2048x2048) ![0, 1792] S2048x256.size inb_S2048x2048_S2048x256_0_1792)) q⟩ ::
      ⟨Rect.unit (s := S2048x1280) ![1536, 0] S256x1280.size inb_S2048x1280_S256x1280_1536_0,
        chunk (View.ld (Val := Elt Ideal) v (Rect.unit (s := S2048x1280) ![1536, 0] S256x1280.size inb_S2048x1280_S256x1280_1536_0))
          (View.ld (Val := Elt Ideal) x (Rect.unit (s := S2048x2048) ![0, 1536] S2048x256.size inb_S2048x2048_S2048x256_0_1536)) q⟩ ::
      ⟨Rect.unit (s := S2048x1280) ![1280, 0] S256x1280.size inb_S2048x1280_S256x1280_1280_0,
        chunk (View.ld (Val := Elt Ideal) v (Rect.unit (s := S2048x1280) ![1280, 0] S256x1280.size inb_S2048x1280_S256x1280_1280_0))
          (View.ld (Val := Elt Ideal) x (Rect.unit (s := S2048x2048) ![0, 1280] S2048x256.size inb_S2048x2048_S2048x256_0_1280)) q⟩ ::
      ⟨Rect.unit (s := S2048x1280) ![1024, 0] S256x1280.size inb_S2048x1280_S256x1280_1024_0,
        chunk (View.ld (Val := Elt Ideal) v (Rect.unit (s := S2048x1280) ![1024, 0] S256x1280.size inb_S2048x1280_S256x1280_1024_0))
          (View.ld (Val := Elt Ideal) x (Rect.unit (s := S2048x2048) ![0, 1024] S2048x256.size inb_S2048x2048_S2048x256_0_1024)) q⟩ ::
      ⟨Rect.unit (s := S2048x1280) ![768, 0] S256x1280.size inb_S2048x1280_S256x1280_768_0,
        chunk (View.ld (Val := Elt Ideal) v (Rect.unit (s := S2048x1280) ![768, 0] S256x1280.size inb_S2048x1280_S256x1280_768_0))
          (View.ld (Val := Elt Ideal) x (Rect.unit (s := S2048x2048) ![0, 768] S2048x256.size inb_S2048x2048_S2048x256_0_768)) q⟩ ::
      ⟨Rect.unit (s := S2048x1280) ![512, 0] S256x1280.size inb_S2048x1280_S256x1280_512_0,
        chunk (View.ld (Val := Elt Ideal) v (Rect.unit (s := S2048x1280) ![512, 0] S256x1280.size inb_S2048x1280_S256x1280_512_0))
          (View.ld (Val := Elt Ideal) x (Rect.unit (s := S2048x2048) ![0, 512] S2048x256.size inb_S2048x2048_S2048x256_0_512)) q⟩ ::
      ⟨Rect.unit (s := S2048x1280) ![256, 0] S256x1280.size inb_S2048x1280_S256x1280_256_0,
        chunk (View.ld (Val := Elt Ideal) v (Rect.unit (s := S2048x1280) ![256, 0] S256x1280.size inb_S2048x1280_S256x1280_256_0))
          (View.ld (Val := Elt Ideal) x (Rect.unit (s := S2048x2048) ![0, 256] S2048x256.size inb_S2048x2048_S2048x256_0_256)) q⟩ ::
      ⟨Rect.unit (s := S2048x1280) ![0, 0] S256x1280.size inb_S2048x1280_S256x1280_0_0,
        chunk (View.ld (Val := Elt Ideal) v (Rect.unit (s := S2048x1280) ![0, 0] S256x1280.size inb_S2048x1280_S256x1280_0_0))
          (View.ld (Val := Elt Ideal) x (Rect.unit (s := S2048x2048) ![0, 0] S2048x256.size inb_S2048x2048_S2048x256_0_0)) q⟩ ::
      R) = accum v x q := by
  refine canon_eight (accum v x q) R _ _ _ _ _ _ _ _ _ _ _ _ _ _ _ _ ?_ ?_ ?_ ?_ ?_ ?_ ?_ ?_
  · exact fun y => chunk_ld v x q 0 (by decide) _ _ y
  · exact fun y => chunk_ld v x q 256 (by decide) _ _ y
  · exact fun y => chunk_ld v x q 512 (by decide) _ _ y
  · exact fun y => chunk_ld v x q 768 (by decide) _ _ y
  · exact fun y => chunk_ld v x q 1024 (by decide) _ _ y
  · exact fun y => chunk_ld v x q 1280 (by decide) _ _ y
  · exact fun y => chunk_ld v x q 1536 (by decide) _ _ y
  · exact fun y => chunk_ld v x q 1792 (by decide) _ _ y

section Cases
variable (c : Dev nD) (i : grid1.Coords) (a2 : Memref sig .tc .smem S1x1 .f32) (h2 : a2.IsWhole)
  (a3 : Memref sig .tc .smem S1x1 .f32) (h3 : a3.IsWhole) (a4 : Memref sig .tc .smem S1x1 .f32) (h4 : a4.IsWhole)
  (a5 : Memref sig .tc .vmem S2048x1280 .f32) (h5 : a5.IsWhole) (a6 : Memref sig .tc .vmem S2048x2048 .fp8e4m3) (h6 : a6.IsWhole)
  (a7 : Memref sig .tc .vmem S2048x1280 .bf16) (h7 : a7.IsWhole) (a8 : Memref sig .tc .vmem S2048x1280 .f32) (h8 : a8.IsWhole)
  (a9 : Memref sig .tc .vmem S2048x1280 .fp8e5m2) (h9 : a9.IsWhole)

/-- The codes a point stores. -/
def codesOf (x5 : Vec F S2048x1280 .bf16) (x0 : Vec F S1x1 .f32) : FVec F S2048x1280 .fp8e5m2 := k1_pay3 x5 (x0 (ix2 0 0))

/-- A 1×1 block has one index. -/
theorem idx11 (p q : S1x1.Idx) : p = q := funext fun a => by
  fin_cases a
  · exact Subsingleton.elim (α := Fin 1) _ _
  · exact Subsingleton.elim (α := Fin 1) _ _

/-- The one element of a 1×1 block, however it is read. -/
theorem codesOf_ld (x5 : Vec F S2048x1280 .bf16) (x0 : Vec F S1x1 .f32) (r : Rect S1x1) (j : r.shape.Idx) :
    k1_pay3 x5 (View.ld (Val := Elt F) x0 r j) = codesOf x5 x0 :=
  congrArg (k1_pay3 x5) (congrArg x0 (idx11 _ _))

/-- The two scalars the last point reads. -/
theorem pay1_ld (x2 x1 : Vec F S1x1 .f32) (x3 a : Vec F S2048x1280 .f32) (r r' : Rect S1x1) (j : r.shape.Idx) (j' : r'.shape.Idx) :
    k1_pay1 (View.ld (Val := Elt F) x2 r j) (View.ld (Val := Elt F) x1 r' j') x3 a = k1_pay1 (x2 (ix2 0 0)) (x1 (ix2 0 0)) x3 a :=
  congrArg₂ (fun p q => k1_pay1 (F := F) p q x3 a) (congrArg x2 (idx11 _ _)) (congrArg x1 (idx11 _ _))

section
variable (x0 : Vec F S1x1 .f32) (x1 : Vec F S1x1 .f32) (x2 : Vec F S1x1 .f32) (x3 : Vec F S2048x1280 .f32)
  (x4 : Vec F S2048x2048 .fp8e4m3) (x5 : Vec F S2048x1280 .bf16) (xo : Vec F S2048x1280 .f32)
theorem out_A_7 (hc0 : cond1_0 i) (hc1 : ¬cond1_1 i) :
    out1_A_7 c i a2 h2 a3 h3 a4 h4 a5 h5 a6 h6 a7 h7 a8 h8 a9 h9 hc0 hc1 x0 x1 x2 x3 x4 x5 = codesOf x5 x0 := by
  unfold out1_A_7
  rw [View.read_writes_eq_canon _ _ _ (cover1_A_7 c i a2 h2 a3 h3 a4 h4 a5 h5 a6 h6 a7 h7 a8 h8 a9 h9 hc0 hc1 x0 x1 x2 x3 x4 x5)]
  unfold kernelRun1_A
  dsimp only
  sl_unfold_words
  simp only [View.canon_unit_zero (S := S2048x1280) hzz2, View.readAt_eq_ld, h2.read_unread, h7.read_unread, View.ld_unit_zero (S := S2048x1280) hzz2, View.ld_unit_zero (S := S1x1) hzz2]
  exact codesOf_ld x5 x0 _ _
theorem out_B_7 (hc0 : ¬cond1_0 i) (hc1 : ¬cond1_1 i) :
    out1_B_7 c i a2 h2 a3 h3 a4 h4 a5 h5 a6 h6 a7 h7 a8 h8 a9 h9 hc0 hc1 x0 x1 x2 x3 x4 x5 xo = codesOf x5 x0 := by
  unfold out1_B_7
  rw [View.read_writes_eq_canon _ _ _ (cover1_B_7 c i a2 h2 a3 h3 a4 h4 a5 h5 a6 h6 a7 h7 a8 h8 a9 h9 hc0 hc1 x0 x1 x2 x3 x4 x5 xo)]
  unfold kernelRun1_B
  dsimp only
  sl_unfold_words
  simp only [View.canon_unit_zero (S := S2048x1280) hzz2, View.readAt_eq_ld, h2.read_unread, h7.read_unread, View.ld_unit_zero (S := S2048x1280) hzz2, View.ld_unit_zero (S := S1x1) hzz2]
  exact codesOf_ld x5 x0 _ _
theorem out_C_7 (hc0 : ¬cond1_0 i) (hc1 : cond1_1 i) :
    out1_C_7 c i a2 h2 a3 h3 a4 h4 a5 h5 a6 h6 a7 h7 a8 h8 a9 h9 hc0 hc1 x0 x1 x2 x3 x4 x5 xo = codesOf x5 x0 := by
  unfold out1_C_7
  rw [View.read_writes_eq_canon _ _ _ (cover1_C_7 c i a2 h2 a3 h3 a4 h4 a5 h5 a6 h6 a7 h7 a8 h8 a9 h9 hc0 hc1 x0 x1 x2 x3 x4 x5 xo)]
  unfold kernelRun1_C
  dsimp only
  sl_unfold_words
  simp only [View.canon_unit_zero (S := S2048x1280) hzz2, View.readAt_eq_ld, h2.read_unread, h7.read_unread, View.ld_unit_zero (S := S2048x1280) hzz2, View.ld_unit_zero (S := S1x1) hzz2]
  exact codesOf_ld x5 x0 _ _
end

variable (x0 : Vec Ideal S1x1 .f32) (x1 : Vec Ideal S1x1 .f32) (x2 : Vec Ideal S1x1 .f32) (x3 : Vec Ideal S2048x1280 .f32)
  (x4 : Vec Ideal S2048x2048 .fp8e4m3) (x5 : Vec Ideal S2048x1280 .bf16) (xo : Vec Ideal S2048x1280 .f32)

theorem out_B_6 (hc0 : ¬cond1_0 i) (hc1 : ¬cond1_1 i) :
    out1_B_6 c i a2 h2 a3 h3 a4 h4 a5 h5 a6 h6 a7 h7 a8 h8 a9 h9 hc0 hc1 x0 x1 x2 x3 x4 x5 xo = accum xo x4 (codesOf x5 x0) := by
  unfold out1_B_6
  rw [View.read_writes_eq_canon _ _ _ (cover1_B_6 c i a2 h2 a3 h3 a4 h4 a5 h5 a6 h6 a7 h7 a8 h8 a9 h9 hc0 hc1 x0 x1 x2 x3 x4 x5 xo)]
  unfold kernelRun1_B
  dsimp only
  sl_unfold_words
  simp only [View.readCov_unit_zero (S := S2048x1280) _ hzz2, View.readAt_eq_ld, h2.read_unread, h7.read_unread,h8.read_unread, h6.read_unread, View.ld_unit_zero (S := S2048x1280) hzz2, View.ld_unit_zero (S := S1x1) hzz2,
    pay4_eq, pay7_eq, pay8_eq, pay9_eq, pay13_eq, pay14_eq, pay15_eq, pay16_eq, codesOf_ld]
  exact eight xo x4 (codesOf x5 x0) []

theorem out_A_6 (hc0 : cond1_0 i) (hc1 : ¬cond1_1 i) :
    out1_A_6 c i a2 h2 a3 h3 a4 h4 a5 h5 a6 h6 a7 h7 a8 h8 a9 h9 hc0 hc1 x0 x1 x2 x3 x4 x5 = accum (k1_pay2 (F := Ideal)) x4 (codesOf x5 x0) := by
  unfold out1_A_6
  rw [View.read_writes_eq_canon _ _ _ (cover1_A_6 c i a2 h2 a3 h3 a4 h4 a5 h5 a6 h6 a7 h7 a8 h8 a9 h9 hc0 hc1 x0 x1 x2 x3 x4 x5)]
  unfold kernelRun1_A
  dsimp only
  sl_unfold_words
  have rc : ∀ (o : Nat) (inb : ∀ a, (![o, 0] : Fin 2 → Nat) a + S256x1280.size a ≤ S2048x1280.size a),
      a8.view.readCov (Val := Elt Ideal) [⟨Rect.unit (s := S2048x1280) ![0, 0] S2048x1280.size inb_S2048x1280_S2048x1280_0_0, k1_pay2 (F := Ideal)⟩]
        (Rect.unit (s := S2048x1280) ![o, 0] S256x1280.size inb).toLoadRect
        = View.ld (Val := Elt Ideal) (k1_pay2 (F := Ideal)) (Rect.unit (s := S2048x1280) ![o, 0] S256x1280.size inb) := by
    intro o inb
    rw [View.readCov_eq_canon', View.canon_unit_zero (S := S2048x1280) hzz2]
  have rd : ∀ (o o' : Nat) (x : S256x1280.Idx → Elt Ideal .f32) (L : List (View.Piece (Elt Ideal) S2048x1280 .f32))
      (inb : ∀ a, (![o, 0] : Fin 2 → Nat) a + S256x1280.size a ≤ S2048x1280.size a)
      (inb' : ∀ a, (![o', 0] : Fin 2 → Nat) a + S256x1280.size a ≤ S2048x1280.size a) (h : o + 256 ≤ o' ∨ o' + 256 ≤ o),
      a8.view.readCov (Val := Elt Ideal) (⟨Rect.unit (s := S2048x1280) ![o, 0] S256x1280.size inb, x⟩ :: L)
        (Rect.unit (s := S2048x1280) ![o', 0] S256x1280.size inb').toLoadRect
        = a8.view.readCov (Val := Elt Ideal) L (Rect.unit (s := S2048x1280) ![o', 0] S256x1280.size inb').toLoadRect :=
    fun o o' x L inb inb' h => View.readCov_cons_of_rows_disjoint a8.view o o' h x L inb inb'
  simp (discharger := decide) only [View.readCov_unit_zero (S := S2048x1280) _ hzz2, View.readAt_eq_ld, h2.read_unread, h7.read_unread, h8.read_unread, h6.read_unread,
    View.ld_unit_zero (S := S2048x1280) hzz2, View.ld_unit_zero (S := S1x1) hzz2,
    pay4_eq, pay7_eq, pay8_eq, pay9_eq, pay13_eq, pay14_eq, pay15_eq, pay16_eq, codesOf_ld, rd, rc]
  exact eight (k1_pay2 (F := Ideal)) x4 (codesOf x5 x0) _

theorem out_C_6 (hc0 : ¬cond1_0 i) (hc1 : cond1_1 i) :
    out1_C_6 c i a2 h2 a3 h3 a4 h4 a5 h5 a6 h6 a7 h7 a8 h8 a9 h9 hc0 hc1 x0 x1 x2 x3 x4 x5 xo
      = k1_pay1 (x2 (ix2 0 0)) (x1 (ix2 0 0)) x3 (accum xo x4 (codesOf x5 x0)) := by
  unfold out1_C_6
  rw [View.read_writes_eq_canon _ _ _ (cover1_C_6 c i a2 h2 a3 h3 a4 h4 a5 h5 a6 h6 a7 h7 a8 h8 a9 h9 hc0 hc1 x0 x1 x2 x3 x4 x5 xo)]
  unfold kernelRun1_C
  dsimp only
  sl_unfold_words
  have rw' : ∀ (L : List (View.Piece (Elt Ideal) S2048x1280 .f32)),
      a8.view.readCov (Val := Elt Ideal) L (Rect.unit (s := S2048x1280) ![0, 0] S2048x1280.size inb_S2048x1280_S2048x1280_0_0).toLoadRect
        = View.canon L := fun L =>
    (View.readCov_eq_canon' a8.view L _).trans (View.ld_unit_zero (S := S2048x1280) hzz2 inb_S2048x1280_S2048x1280_0_0 (View.canon L))
  simp only [View.canon_cons_unit_zero (S := S2048x1280) hzz2, View.readCov_unit_zero (S := S2048x1280) _ hzz2, View.readAt_eq_ld,
    h2.read_unread, h3.read_unread, h4.read_unread, h5.read_unread, h7.read_unread, h8.read_unread, h6.read_unread,
    View.ld_unit_zero (S := S2048x1280) hzz2, View.ld_unit_zero (S := S1x1) hzz2,
    pay4_eq, pay7_eq, pay8_eq, pay9_eq, pay13_eq, pay14_eq, pay15_eq, pay16_eq, codesOf_ld, pay1_ld, rw']
  exact congrArg (k1_pay1 (F := Ideal) (x2 (ix2 0 0)) (x1 (ix2 0 0)) x3) (eight xo x4 (codesOf x5 x0) [])

end Cases
end Cert.KernelIdeal.Run
end
-- ==== Proof.IdealMatmulFinal.lean ====
/- What the second region leaves in its two arrays, read at the ideal values: the codes of the whole gradient, and the
   accumulated weight gradient. -/
module

public import proofs.«01_k».proof.Proof.IdealMatmulValue

@[expose] public section

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The region's operands as it finds them. -/
abbrev invA : Vec Ideal S1x1 .f32 := V c main_v2_1
abbrev sclA : Vec Ideal S1x1 .f32 := V c main_v2_0
abbrev xsA : Vec Ideal S1x1 .f32 := V c main_v3
abbrev dwA : Vec Ideal S8192x1280 .f32 := V c main_arg3
abbrev xA : Vec Ideal S32768x8192 .fp8e4m3 := V c main_v0
abbrev dyA : Vec Ideal S32768x1280 .bf16 := V c main_v1

/-- One element's code: times the reciprocal scale, clipped. -/
def qv (d s : EReal) : EReal := min (Ideal.ofBits .f32 0x47600000#32) (max (Ideal.ofBits .f32 0xC7600000#32) (d * s))

theorem codesOf_apply (x5 : Vec Ideal S2048x1280 .bf16) (x0 : Vec Ideal S1x1 .f32) (y : S2048x1280.Idx) :
    codesOf x5 x0 y = qv (x5 y) (x0 (ix2 0 0)) := by
  unfold codesOf k1_pay3
  simp only [shapeCast_self]
  rfl

/-! ## The blocks -/

theorem idx1_0 : ∀ t : Fin grid1.N, win1_0.index t 0 = 0 ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = t.val / 16 ∧ win1_3.index t 1 = 0 := by decide +kernel
theorem idx1_4 : ∀ t : Fin grid1.N, win1_4.index t 0 = t.val % 16 ∧ win1_4.index t 1 = t.val / 16 := by decide +kernel
theorem idx1_5 : ∀ t : Fin grid1.N, win1_5.index t 0 = t.val % 16 ∧ win1_5.index t 1 = 0 := by decide +kernel
theorem idx1_6 : ∀ t : Fin grid1.N, win1_6.index t 0 = t.val / 16 ∧ win1_6.index t 1 = 0 := by decide +kernel
theorem idx1_7 : ∀ t : Fin grid1.N, (t.val < 15 ∨ t.val = 63) → win1_7.index t 0 = t.val % 16 ∧ win1_7.index t 1 = 0 := by decide +kernel
/-- The codes' block is written back after each of the first fifteen points and after the last. -/
theorem flush1_7 : ∀ t : Fin grid1.N, win1_7.flush t = true ↔ (t.val < 15 ∨ t.val = 63) := by decide +kernel

theorem iblk1_4_apply (t : Fin cfg1.N) (y : S2048x2048.Idx) (a : Fin 32768) (b : Fin 8192)
    (ha : a.val = 2048 * (t.val % 16) + (y 0).val) (hb : b.val = 2048 * (t.val / 16) + (y 1).val) :
    (iblk1 V c 4 t : Vec Ideal S2048x2048 .fp8e4m3) y = xA V c (ix2 a b) := by
  unfold iblk1
  rw [View.read_apply]
  refine congrArg (xA V c) (funext fun d => Fin.ext ?_)
  match d with
  | ⟨0, _⟩ => show win1_4.index t 0 * 2048 + 1 * (y 0).val = a.val; rw [(idx1_4 t).1]; omega
  | ⟨1, _⟩ => show win1_4.index t 1 * 2048 + 1 * (y 1).val = b.val; rw [(idx1_4 t).2]; omega

theorem iblk1_5_apply (t : Fin cfg1.N) (y : S2048x1280.Idx) (a : Fin 32768) (b : Fin 1280)
    (ha : a.val = 2048 * (t.val % 16) + (y 0).val) (hb : b.val = (y 1).val) :
    (iblk1 V c 5 t : Vec Ideal S2048x1280 .bf16) y = dyA V c (ix2 a b) := by
  unfold iblk1
  rw [View.read_apply]
  refine congrArg (dyA V c) (funext fun d => Fin.ext ?_)
  match d with
  | ⟨0, _⟩ => show win1_5.index t 0 * 2048 + 1 * (y 0).val = a.val; rw [(idx1_5 t).1]; omega
  | ⟨1, _⟩ => show win1_5.index t 1 * 1280 + 1 * (y 1).val = b.val; rw [(idx1_5 t).2]; omega

theorem iblk1_3_apply (t : Fin cfg1.N) (y : S2048x1280.Idx) (a : Fin 8192) (b : Fin 1280)
    (ha : a.val = 2048 * (t.val / 16) + (y 0).val) (hb : b.val = (y 1).val) :
    (iblk1 V c 3 t : Vec Ideal S2048x1280 .f32) y = dwA V c (ix2 a b) := by
  unfold iblk1
  rw [View.read_apply]
  refine congrArg (dwA V c) (funext fun d => Fin.ext ?_)
  match d with
  | ⟨0, _⟩ => show win1_3.index t 0 * 2048 + 1 * (y 0).val = a.val; rw [(idx1_3 t).1]; omega
  | ⟨1, _⟩ => show win1_3.index t 1 * 1280 + 1 * (y 1).val = b.val; rw [(idx1_3 t).2]; omega

theorem iblk1_0_apply (t : Fin cfg1.N) : (iblk1 V c 0 t : Vec Ideal S1x1 .f32) (ix2 0 0) = invA V c (ix2 0 0) := by
  unfold iblk1
  rw [View.read_apply]
  exact congrArg (invA V c) (idx11 _ _)
theorem iblk1_1_apply (t : Fin cfg1.N) : (iblk1 V c 1 t : Vec Ideal S1x1 .f32) (ix2 0 0) = sclA V c (ix2 0 0) := by
  unfold iblk1
  rw [View.read_apply]
  exact congrArg (sclA V c) (idx11 _ _)
theorem iblk1_2_apply (t : Fin cfg1.N) : (iblk1 V c 2 t : Vec Ideal S1x1 .f32) (ix2 0 0) = xsA V c (ix2 0 0) := by
  unfold iblk1
  rw [View.read_apply]
  exact congrArg (xsA V c) (idx11 _ _)

/-! ## The codes -/

/-- The codes of the whole gradient. -/
def codesArr : Vec Ideal S32768x1280 .fp8e5m2 := fun j => qv (dyA V c j) (invA V c (ix2 0 0))

/-- The codes every point leaves are those of its rows of the gradient. -/
theorem outs_codes (t : Fin cfg1.N) :
    (outsAt1 V c t.val t.isLt).2 = codesOf (iblk1 V c 5 t : Vec Ideal S2048x1280 .bf16) (iblk1 V c 0 t : Vec Ideal S1x1 .f32) := by
  by_cases h0 : t.val % 16 = 0
  · have h1 : ¬t.val % 16 = 15 := by omega
    rw [outsAt1_A V c t h0 h1]; dsimp only; rw [out_A_7]
  · by_cases h1 : t.val % 16 = 15
    · rw [outsAt1_C V c t h0 h1]; dsimp only; rw [out_C_7]
    · rw [outsAt1_B V c t h0 h1]; dsimp only; rw [out_B_7]

theorem codes_at (t : Fin cfg1.N) (y : S2048x1280.Idx) (a : Fin 32768) (b : Fin 1280)
    (ha : a.val = 2048 * (t.val % 16) + (y 0).val) (hb : b.val = (y 1).val) :
    (outsAt1 V c t.val t.isLt).2 y = codesArr V c (ix2 a b) := by
  rw [outs_codes, codesOf_apply, iblk1_0_apply, iblk1_5_apply V c t y a b ha hb]
  rfl

theorem flushed7 (t : Fin cfg1.N) (hf : (cfg1.win 7).flush t = true) :
    (dat1 V c).flushed 7 t = ((cfg1.win 7).blk t).view.read (Elt Ideal) (codesArr V c) := by
  have hi := idx1_7 t ((flush1_7 t).mp hf)
  show (cfg1.win 7).cut (grid1.coords t) ((dat1 V c).after 7 t) = _
  rw [after1_7]
  funext y
  rw [View.read_apply]
  have hy0 : ((y : S2048x1280.Idx) 0).val < 2048 := ((y : S2048x1280.Idx) 0).isLt
  have hy1 : ((y : S2048x1280.Idx) 1).val < 1280 := ((y : S2048x1280.Idx) 1).isLt
  refine (codes_at V c t y ⟨2048 * (t.val % 16) + ((y : S2048x1280.Idx) 0).val, by omega⟩ ⟨((y : S2048x1280.Idx) 1).val, hy1⟩ rfl rfl).trans ?_
  refine congrArg (codesArr V c) (funext fun d => Fin.ext ?_)
  match d with
  | ⟨0, _⟩ => show 2048 * (t.val % 16) + ((y : S2048x1280.Idx) 0).val = win1_7.index t 0 * 2048 + 1 * ((y : S2048x1280.Idx) 0).val; rw [hi.1]; omega
  | ⟨1, _⟩ => show ((y : S2048x1280.Idx) 1).val = win1_7.index t 1 * 1280 + 1 * ((y : S2048x1280.Idx) 1).val; rw [hi.2]; omega

/-- The codes' array ends holding the codes of the whole gradient. -/
theorem final7 : (dat1 V c).arrAt 7 cfg1.N = codesArr V c :=
  (dat1 V c).arrAt_eq_of_cover 7 (codesArr V c) (flushed7 V c) fun i => by
    have h0 : ((i : S32768x1280.Idx) 0).val < 32768 := ((i : S32768x1280.Idx) 0).isLt
    have h1 : ((i : S32768x1280.Idx) 1).val < 1280 := ((i : S32768x1280.Idx) 1).isLt
    obtain ⟨t, ht, hb⟩ : ∃ t : Fin cfg1.N, (t.val < 15 ∨ t.val = 63) ∧ t.val % 16 = ((i : S32768x1280.Idx) 0).val / 2048 := by
      by_cases h : ((i : S32768x1280.Idx) 0).val / 2048 = 15
      · exact ⟨⟨63, by rw [show cfg1.N = 64 from N_1]; decide⟩, Or.inr rfl, by dsimp only; omega⟩
      · exact ⟨⟨((i : S32768x1280.Idx) 0).val / 2048, by rw [show cfg1.N = 64 from N_1]; omega⟩, Or.inl (by dsimp only; omega), by dsimp only; omega⟩
    have hi := idx1_7 t ht
    refine ⟨t, (flush1_7 t).mpr ht, ?_⟩
    show i ∈ ((View.whole main_v4_1).slice (win1_7.rect t)).set
    rw [View.set_slice_whole, Rect.mem_set_unit]
    intro a
    match a with
    | ⟨0, _⟩ => show win1_7.index t 0 * 2048 ≤ ((i : S32768x1280.Idx) 0).val ∧ ((i : S32768x1280.Idx) 0).val < win1_7.index t 0 * 2048 + 2048
                rw [hi.1]; omega
    | ⟨1, _⟩ => show win1_7.index t 1 * 1280 ≤ ((i : S32768x1280.Idx) 1).val ∧ ((i : S32768x1280.Idx) 1).val < win1_7.index t 1 * 1280 + 1280
                rw [hi.2]; omega

/-! ## The weight gradient -/

/-- The `n`-th product of the contraction at row `a`, column `b`. -/
def prodAt (a : Fin 8192) (b : Fin 1280) (n : ℕ) : EReal :=
  if h : n < 32768 then xA V c (ix2 ⟨n, h⟩ a) * qv (dyA V c (ix2 ⟨n, h⟩ b)) (invA V c (ix2 0 0)) else 0

/-- A point adds the products of its 2048 rows. -/
theorem accum_apply (v : Vec Ideal S2048x1280 .f32) (t : Fin cfg1.N) (y : S2048x1280.Idx) (a : Fin 8192) (b : Fin 1280)
    (ha : a.val = 2048 * (t.val / 16) + (y 0).val) (hb : b.val = (y 1).val) :
    accum v (iblk1 V c 4 t : Vec Ideal S2048x2048 .fp8e4m3) (codesOf (iblk1 V c 5 t : Vec Ideal S2048x1280 .bf16) (iblk1 V c 0 t : Vec Ideal S1x1 .f32)) y
      = v y + ∑ k : Fin 2048, prodAt V c a b (2048 * (t.val % 16) + k.val) := by
  unfold accum
  refine congrArg (fun s : EReal => v y + s) (Finset.sum_congr rfl fun k _ => ?_)
  have hk := k.isLt
  have hn : 2048 * (t.val % 16) + k.val < 32768 := by omega
  unfold prodAt
  rw [dif_pos hn, codesOf_apply, iblk1_0_apply,
    iblk1_4_apply V c t (ix2 k (y 0)) ⟨2048 * (t.val % 16) + k.val, hn⟩ a rfl ha,
    iblk1_5_apply V c t (ix2 k (y 1)) ⟨2048 * (t.val % 16) + k.val, hn⟩ b rfl hb]

/-- After the `k`-th point of a sweep the block holds the products of the first `k + 1` row blocks. -/
theorem outs_acc : ∀ (k : ℕ) (hk : k < 15) (t : Fin cfg1.N) (ht : t.val % 16 = k) (y : S2048x1280.Idx) (a : Fin 8192) (b : Fin 1280)
    (ha : a.val = 2048 * (t.val / 16) + (y 0).val) (hb : b.val = (y 1).val),
    (outsAt1 V c t.val t.isLt).1 y = ∑ n ∈ Finset.range (2048 * k + 2048), prodAt V c a b n
  | 0, _, t, ht, y, a, b, ha, hb => by
    have h1 : ¬t.val % 16 = 15 := by omega
    rw [outsAt1_A V c t ht h1]
    dsimp only
    rw [out_A_6, accum_apply V c _ t y a b ha hb, Finset.sum_range, ht]
    rw [show (k1_pay2 (F := Ideal)) y = (0 : EReal) from Ideal.ofBits_zero_f32, zero_add]
    refine Finset.sum_congr rfl fun k _ => congrArg _ ?_
    omega
  | k + 1, hk, t, ht, y, a, b, ha, hb => by
    have h0 : ¬t.val % 16 = 0 := by omega
    have h1 : ¬t.val % 16 = 15 := by omega
    rw [outsAt1_B V c t h0 h1]
    dsimp only
    rw [out_B_6, accum_apply V c _ t y a b ha hb, Finset.sum_range_add, ht]
    have := outs_acc k (by omega) ⟨t.val - 1, Nat.lt_of_le_of_lt (Nat.sub_le _ _) t.isLt⟩ (by dsimp only; omega) y a b
      (by dsimp only; rw [ha]; congr 2; omega) hb
    dsimp only at this
    rw [this, show 2048 * k + 2048 = 2048 * (k + 1) from rfl]
    exact congrArg _ (Finset.sum_range (fun x => prodAt V c a b (2048 * (k + 1) + x))).symm

/-- The weight gradient: the old one plus the scaled contraction. -/
def dwArr : Vec Ideal S8192x1280 .f32 := fun j =>
  dwA V c j + (∑ n : Fin 32768, xA V c (ix2 n (j 0)) * qv (dyA V c (ix2 n (j 1))) (invA V c (ix2 0 0)) : EReal)
    * (xsA V c (ix2 0 0) * sclA V c (ix2 0 0))

theorem pay1_apply (s1 s2 : EReal) (d a : Vec Ideal S2048x1280 .f32) (y : S2048x1280.Idx) :
    k1_pay1 (F := Ideal) s1 s2 d a y = d y + a y * (s1 * s2) := by
  unfold k1_pay1
  simp only [shapeCast_self]
  rfl

theorem outs_last (t : Fin cfg1.N) (ht : t.val % 16 = 15) (y : S2048x1280.Idx) (a : Fin 8192) (b : Fin 1280)
    (ha : a.val = 2048 * (t.val / 16) + (y 0).val) (hb : b.val = (y 1).val) :
    (outsAt1 V c t.val t.isLt).1 y = dwArr V c (ix2 a b) := by
  have h0 : ¬t.val % 16 = 0 := by omega
  rw [outsAt1_C V c t h0 ht]
  dsimp only
  rw [out_C_6, pay1_apply, iblk1_1_apply, iblk1_2_apply, iblk1_3_apply V c t y a b ha hb, accum_apply V c _ t y a b ha hb]
  have := outs_acc V c 14 (by omega) ⟨t.val - 1, Nat.lt_of_le_of_lt (Nat.sub_le _ _) t.isLt⟩ (by dsimp only; omega) y a b
      (by dsimp only; rw [ha]; congr 2; omega) hb
  dsimp only at this
  rw [this, ht]
  unfold dwArr
  have e : (∑ n : Fin 32768, xA V c (ix2 n a) * qv (dyA V c (ix2 n b)) (invA V c (ix2 0 0)) : EReal)
      = ∑ n ∈ Finset.range (2048 * 14 + 2048), prodAt V c a b n + ∑ k : Fin 2048, prodAt V c a b (2048 * 15 + k.val) := by
    rw [← Finset.sum_range (fun x => prodAt V c a b (2048 * 15 + x)), ← Finset.sum_range_add (prodAt V c a b) (2048 * 14 + 2048) 2048,
      Finset.sum_range]
    refine Finset.sum_congr rfl fun n _ => ?_
    unfold prodAt
    rw [dif_pos n.isLt]
  rw [← e]
  rfl

theorem flushed6 (t : Fin cfg1.N) (hf : (cfg1.win 6).flush t = true) :
    (dat1 V c).flushed 6 t = ((cfg1.win 6).blk t).view.read (Elt Ideal) (dwArr V c) := by
  have ht := (flush1_6 t).mp hf
  have hi := idx1_6 t
  have hN : t.val < 64 := Nat.lt_of_lt_of_eq t.isLt N_1
  show (cfg1.win 6).cut (grid1.coords t) ((dat1 V c).after 6 t) = _
  rw [after1_6]
  funext y
  rw [View.read_apply]
  have hy0 : ((y : S2048x1280.Idx) 0).val < 2048 := ((y : S2048x1280.Idx) 0).isLt
  have hy1 : ((y : S2048x1280.Idx) 1).val < 1280 := ((y : S2048x1280.Idx) 1).isLt
  refine (outs_last V c t ht y ⟨2048 * (t.val / 16) + ((y : S2048x1280.Idx) 0).val, by omega⟩ ⟨((y : S2048x1280.Idx) 1).val, hy1⟩ rfl rfl).trans ?_
  refine congrArg (dwArr V c) (funext fun d => Fin.ext ?_)
  match d with
  | ⟨0, _⟩ => show 2048 * (t.val / 16) + ((y : S2048x1280.Idx) 0).val = win1_6.index t 0 * 2048 + 1 * ((y : S2048x1280.Idx) 0).val; rw [hi.1]; omega
  | ⟨1, _⟩ => show ((y : S2048x1280.Idx) 1).val = win1_6.index t 1 * 1280 + 1 * ((y : S2048x1280.Idx) 1).val; rw [hi.2]; omega

/-- The weight gradient's array ends holding the accumulated weight gradient. -/
theorem final6 : (dat1 V c).arrAt 6 cfg1.N = dwArr V c :=
  (dat1 V c).arrAt_eq_of_cover 6 (dwArr V c) (flushed6 V c) fun i => by
    have h0 : ((i : S8192x1280.Idx) 0).val < 8192 := ((i : S8192x1280.Idx) 0).isLt
    have h1 : ((i : S8192x1280.Idx) 1).val < 1280 := ((i : S8192x1280.Idx) 1).isLt
    obtain ⟨t, ht, hb⟩ : ∃ t : Fin cfg1.N, t.val % 16 = 15 ∧ t.val / 16 = ((i : S8192x1280.Idx) 0).val / 2048 :=
      ⟨⟨((i : S8192x1280.Idx) 0).val / 2048 * 16 + 15, by rw [show cfg1.N = 64 from N_1]; omega⟩, by dsimp only; omega, by dsimp only; omega⟩
    have hi := idx1_6 t
    refine ⟨t, (flush1_6 t).mpr ht, ?_⟩
    show i ∈ ((View.whole main_v4_0).slice (win1_6.rect t)).set
    rw [View.set_slice_whole, Rect.mem_set_unit]
    intro a
    match a with
    | ⟨0, _⟩ => show win1_6.index t 0 * 2048 ≤ ((i : S8192x1280.Idx) 0).val ∧ ((i : S8192x1280.Idx) 0).val < win1_6.index t 0 * 2048 + 2048
                rw [hi.1]; omega
    | ⟨1, _⟩ => show win1_6.index t 1 * 1280 ≤ ((i : S8192x1280.Idx) 1).val ∧ ((i : S8192x1280.Idx) 1).val < win1_6.index t 1 * 1280 + 1280
                rw [hi.2]; omega

end Cert.KernelIdeal.Run

end
-- ==== Proof.IdealAmaxValue.lean ====
module

public import proofs.«01_k».proof.Proof.IdealRun
public import Idealize.ShloMosaic.Lib.Pipeline.Value
public import Idealize.ShloMosaic.Lib.Tactic

@[expose] public section

noncomputable section

namespace Cert.KernelIdeal.Run

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a rank-2 rectangle, as the constant function. -/
theorem hz2 : (![0, 0] : Fin 2 → Nat) = fun _ => 0 := funext fun a => by fin_cases a <;> rfl

section Cases
variable (c : Dev nD) (i : grid0.Coords) (a1 : Memref sig .tc .vmem S2048x1280 .bf16) (h1 : a1.IsWhole)
  (a2 : Memref sig .tc .vmem S1x1 .f32) (h2 : a2.IsWhole) (a3 : Memref sig .tc .vmem S1x1 .f32) (h3 : a3.IsWhole)
  (a4 : Memref sig .tc .vmem S16x1280 .bf16) (h4 : a4.IsWhole)
  (x : Vec F S2048x1280 .bf16) (xs : Vec F S16x1280 .bf16)

/-- The first point leaves in the scratch the column maxima of its block. -/
theorem sout_A (hc0 : cond0_0 i) (hc1 : ¬cond0_1 i) (hc2 : ¬cond0_2 i) :
    sout0_A_0 c i a1 h1 a2 h2 a3 h3 a4 h4 hc0 hc1 hc2 x = k0_pay1 x := by
  unfold sout0_A_0
  rw [View.read_writes_eq_canon _ _ _ (scover0_A_0 c i a1 h1 a2 h2 a3 h3 a4 h4 hc0 hc1 hc2 x)]
  unfold kernelRun0_A
  dsimp only
  rw [View.canon_unit_zero hz2]
  unfold k0_pay2
  simp only [View.readAt_eq_ld, h1.read_unread, View.ld_unit_zero (S := S2048x1280) hz2, shapeCast_self]

/-- A middle point takes the maximum of the scratch and the column maxima of its block. -/
theorem sout_B (hc0 : ¬cond0_0 i) (hc1 : cond0_1 i) (hc2 : ¬cond0_2 i) :
    sout0_B_0 c i a1 h1 a2 h2 a3 h3 a4 h4 hc0 hc1 hc2 x xs = maximumf xs (k0_pay1 x) := by
  unfold sout0_B_0
  rw [View.read_writes_eq_canon _ _ _ (scover0_B_0 c i a1 h1 a2 h2 a3 h3 a4 h4 hc0 hc1 hc2 x xs)]
  unfold kernelRun0_B
  dsimp only
  rw [View.canon_unit_zero hz2]
  unfold k0_pay3
  simp only [View.readAt_eq_ld, h1.read_unread, h4.read_unread, View.ld_unit_zero (S := S2048x1280) hz2,
    View.ld_unit_zero (S := S16x1280) hz2, shapeCast_self]

/-- The last point stores the scale of the maximum it completes. -/
theorem out_C_1 (hc0 : ¬cond0_0 i) (hc1 : cond0_1 i) (hc2 : cond0_2 i) :
    out0_C_1 c i a1 h1 a2 h2 a3 h3 a4 h4 hc0 hc1 hc2 x xs = k0_pay6 (maximumf xs (k0_pay1 x)) := by
  unfold out0_C_1
  rw [View.read_writes_eq_canon _ _ _ (cover0_C_1 c i a1 h1 a2 h2 a3 h3 a4 h4 hc0 hc1 hc2 x xs)]
  unfold kernelRun0_C
  dsimp only
  sl_unfold_words
  rw [View.canon_unit_zero (S := S1x1) hz2]
  simp only [View.readCov_unit_zero (S := S16x1280) _ hz2]
  unfold k0_pay3
  simp only [View.readAt_eq_ld, h1.read_unread, h4.read_unread, View.ld_unit_zero (S := S2048x1280) hz2,
    View.ld_unit_zero (S := S16x1280) hz2, shapeCast_self]

/-- The last point stores the reciprocal of the scale of the maximum it completes. -/
theorem out_C_2 (hc0 : ¬cond0_0 i) (hc1 : cond0_1 i) (hc2 : cond0_2 i) :
    out0_C_2 c i a1 h1 a2 h2 a3 h3 a4 h4 hc0 hc1 hc2 x xs = k0_pay4 (k0_pay5 (maximumf xs (k0_pay1 x))) := by
  unfold out0_C_2
  rw [View.read_writes_eq_canon _ _ _ (cover0_C_2 c i a1 h1 a2 h2 a3 h3 a4 h4 hc0 hc1 hc2 x xs)]
  unfold kernelRun0_C
  dsimp only
  sl_unfold_words
  rw [View.canon_unit_zero (S := S1x1) hz2]
  simp only [View.readCov_unit_zero (S := S16x1280) _ hz2]
  unfold k0_pay3
  simp only [View.readAt_eq_ld, h1.read_unread, h4.read_unread, View.ld_unit_zero (S := S2048x1280) hz2,
    View.ld_unit_zero (S := S16x1280) hz2, shapeCast_self]

end Cases

end Cert.KernelIdeal.Run

end
-- ==== Proof.ScaleMath.lean ====
/- The shared exponent of a quantisation scale, read off the largest magnitude: how many powers of two it reaches, or the
   largest power it reaches. Two spellings of it, of the special cases and of the powers, and that they name the same numbers. -/
module

public import Idealize.ShloMosaic.Lib.Pointwise
public import Idealize.ShloMosaic.Lib.IndicatorCount

@[expose] public section

noncomputable section

namespace Cert.Scale

open Idealize.ShloMosaic

/-- The word whose exponent field is `e + 127` denotes the power `2 ^ e`, for the exponents of normal numbers. -/
theorem ofBits_pow (e : BitVec 32) (lo : -126 ≤ e.toInt) (hi : e.toInt ≤ 127) :
    (Ideal.ofBits .f32 (IntOp.shli ArithUnit.vector (IntOp.addi e 127#32) 23#32) : EReal) = Ideal.exp2 ((e.toInt : ℝ) : EReal) := by
  have hE : ((e + 127#32).toNat : ℤ) = e.toInt + 127 := by
    rw [BitVec.toNat_add, BitVec.toInt_eq_toNat_cond] at *
    have := e.isLt
    simp only [BitVec.toNat_ofNat] at *
    split at lo <;> omega
  have hw : (IntOp.shli ArithUnit.vector (IntOp.addi e 127#32) 23#32).toNat = (e + 127#32).toNat * 2 ^ 23 := by
    show ((e + 127#32) <<< (23#32 : BitVec 32)).toNat = _
    rw [BitVec.shiftLeft_eq', BitVec.toNat_shiftLeft, Nat.shiftLeft_eq, show (23#32 : BitVec 32).toNat = 23 from rfl]
    omega
  generalize IntOp.shli ArithUnit.vector (IntOp.addi e 127#32) 23#32 = w at hw ⊢
  generalize hEn : (e + 127#32).toNat = E at hE hw
  have h1 : w.extractLsb' 31 1 = 0#1 := BitVec.eq_of_toNat_eq (by
    rw [BitVec.extractLsb'_toNat, hw, Nat.shiftRight_eq_div_pow]; simp only [BitVec.toNat_ofNat]; omega)
  have h2 : (w.extractLsb' 23 8).toNat = E := by
    rw [BitVec.extractLsb'_toNat, hw, Nat.shiftRight_eq_div_pow]; omega
  have h3 : (w.extractLsb' 0 23).toNat = 0 := by
    rw [BitVec.extractLsb'_toNat, hw, Nat.shiftRight_eq_div_pow]; omega
  show Ideal.ieee 8 23 w = _
  unfold Ideal.ieee
  simp only [show (8 + 23 : ℕ) = 31 from rfl, h1, h2, h3]
  rw [if_neg (by omega), if_neg (by omega), Ideal.exp2_coe, Real.rpow_eq_pow, Real.rpow_intCast]
  congr 1
  rw [show e.toInt = ((E : ℤ) - (2 ^ (8 - 1) - 1) - (23 : ℕ)) + 23 by norm_num; omega, zpow_add₀ (by norm_num)]
  norm_num
  ring

theorem ofBits_inf : (Ideal.ofBits .f32 0x7F800000#32 : EReal) = ⊤ := by
  show Ideal.ieee 8 23 (0x7F800000#32 : BitVec 32) = ⊤
  simp [Ideal.ieee]

theorem ofBits_neg_inf : (Ideal.ofBits .f32 0xFF800000#32 : EReal) = ⊥ := by
  show Ideal.ieee 8 23 (0xFF800000#32 : BitVec 32) = ⊥
  simp [Ideal.ieee]

theorem ofBits_neg_inf_bf16 : (Ideal.ofBits .bf16 0xFF80#16 : EReal) = ⊥ := by
  show Ideal.ieee 8 7 (0xFF80#16 : BitVec 16) = ⊥
  simp [Ideal.ieee]

/-- How many of the powers `2 ^ -126 … 2 ^ 113` the value reaches. -/
def cnt (a : EReal) : ℕ :=
  (Finset.univ.filter fun k : Fin 240 => Ideal.exp2 (((BitVec.ofNat 32 k.val - 126#32).toInt : ℝ) : EReal) ≤ a).card

theorem cnt_le (a : EReal) : cnt a ≤ 240 := by
  refine (Finset.card_filter_le _ _).trans ?_
  simp

/-- The exponent of the scale for largest magnitude `A`. -/
def expo (A : EReal) : BitVec 32 :=
  if A = 0 then 0#32
  else if 0 < cnt (A * Ideal.ofBits .f32 932333861#32) ∧ A * Ideal.ofBits .f32 932333861#32 < (⊤ : EReal)
    then BitVec.ofNat 32 (cnt (A * Ideal.ofBits .f32 932333861#32)) - 126#32 else 0#32

theorem expo_range (A : EReal) : -126 ≤ (expo A).toInt ∧ (expo A).toInt ≤ 126 := by
  unfold expo
  split
  · decide
  · split
    · have h := cnt_le (A * Ideal.ofBits .f32 932333861#32)
      generalize cnt (A * Ideal.ofBits .f32 932333861#32) = n at h
      have h1 : (BitVec.ofNat 32 n).toInt = n := by rw [BitVec.toInt_eq_toNat_cond, BitVec.toNat_ofNat]; split <;> omega
      rw [BitVec.toInt_sub, h1, show (126#32 : BitVec 32).toInt = 126 by decide, Int.bmod_def]
      omega
    · decide

/-- The count over 256 lanes of which the last 16 are masked off, against powers written as words. -/
theorem count_masked (a : EReal) :
    Finset.fold IntOp.addi (0#32) (fun x : Fin 256 => BitVec.setWidth 32
      (IntOp.andi (IntOp.cmpi CmpIPredicate.slt (BitVec.ofNat 32 ↑x) 240#32)
        (BitVec.ofBool (decide ((Ideal.ofBits FTy.f32 (IntOp.shli ArithUnit.vector
          (IntOp.addi (IntOp.subi (BitVec.ofNat 32 ↑x) 126#32) 127#32) 23#32) : EReal) ≤ a))))) Finset.univ
      = BitVec.ofNat 32 (cnt a) := by
  rw [IndicatorCount.fold_addi_setWidth_eq_card]
  congr 1
  have hc : ∀ x : Fin 256, IntOp.cmpi CmpIPredicate.slt (BitVec.ofNat 32 ↑x) 240#32 = BitVec.ofBool (decide (x.val < 240)) := by decide +kernel
  have hr : ∀ x : Fin 256, x.val < 240 → -126 ≤ (BitVec.ofNat 32 x.val - 126#32).toInt ∧ (BitVec.ofNat 32 x.val - 126#32).toInt ≤ 127 := by
    decide +kernel
  have hand : ∀ p q : Bool, IntOp.andi (BitVec.ofBool p) (BitVec.ofBool q) = 1#1 ↔ p = true ∧ q = true := by decide
  have key : ∀ x : Fin 256, (IntOp.andi (IntOp.cmpi CmpIPredicate.slt (BitVec.ofNat 32 ↑x) 240#32)
        (BitVec.ofBool (decide ((Ideal.ofBits FTy.f32 (IntOp.shli ArithUnit.vector
          (IntOp.addi (IntOp.subi (BitVec.ofNat 32 ↑x) 126#32) 127#32) 23#32) : EReal) ≤ a))) = 1#1)
      ↔ x.val < 240 ∧ Ideal.exp2 (((BitVec.ofNat 32 x.val - 126#32).toInt : ℝ) : EReal) ≤ a := by
    intro x
    rw [hc, hand, decide_eq_true_iff, decide_eq_true_iff]
    refine and_congr_right fun hx => ?_
    have e := ofBits_pow (BitVec.ofNat 32 x.val - 126#32) (hr x hx).1 (hr x hx).2
    exact Eq.to_iff (congrArg (fun z : EReal => z ≤ a) e)
  unfold cnt
  refine Finset.card_bij' (fun x hx => ⟨x.val, ((key x).mp (Finset.mem_filter.mp hx).2).1⟩) (fun x _ => ⟨x.val, by omega⟩) ?_ ?_ ?_ ?_
  · intro x hx
    exact Finset.mem_filter.mpr ⟨Finset.mem_univ _, ((key x).mp (Finset.mem_filter.mp hx).2).2⟩
  · intro x hx
    exact Finset.mem_filter.mpr ⟨Finset.mem_univ _, (key _).mpr ⟨x.isLt, (Finset.mem_filter.mp hx).2⟩⟩
  · intro x hx; rfl
  · intro x hx; rfl

/-- The exponent of lane `k`'s power, as an integer. -/
theorem lane_toInt (k : Fin 240) (n : ℕ) (hn : n ≤ 126) : (BitVec.ofNat 32 k.val - BitVec.ofNat 32 n).toInt = (k.val : ℤ) - n := by
  have hk := k.isLt
  have h1 : (BitVec.ofNat 32 k.val).toInt = k.val := by rw [BitVec.toInt_eq_toNat_cond, BitVec.toNat_ofNat]; split <;> omega
  have h2 : (BitVec.ofNat 32 n).toInt = n := by rw [BitVec.toInt_eq_toNat_cond, BitVec.toNat_ofNat]; split <;> omega
  rw [BitVec.toInt_sub, h1, h2, Int.bmod_def]
  omega

/-- `2 ^ x` is monotone. -/
theorem exp2_mono {x y : ℝ} (h : x ≤ y) : (Ideal.exp2 (x : EReal) : EReal) ≤ Ideal.exp2 (y : EReal) := by
  rw [Ideal.exp2_coe, Ideal.exp2_coe]
  exact EReal.coe_le_coe_iff.mpr (by
    rw [Real.rpow_eq_pow, Real.rpow_eq_pow]
    exact Real.rpow_le_rpow_of_exponent_le (by norm_num) h)

/-- The powers a value reaches are the first ones: as many as are counted. -/
theorem reach_iff (a : EReal) (k : Fin 240) : Ideal.exp2 (((BitVec.ofNat 32 k.val - 126#32).toInt : ℝ) : EReal) ≤ a ↔ k.val < cnt a := by
  have mono : ∀ j k : Fin 240, j ≤ k → Ideal.exp2 (((BitVec.ofNat 32 j.val - 126#32).toInt : ℝ) : EReal)
      ≤ Ideal.exp2 (((BitVec.ofNat 32 k.val - 126#32).toInt : ℝ) : EReal) := fun j k h => exp2_mono (by
    have hj := lane_toInt j 126 (by omega)
    have hk := lane_toInt k 126 (by omega)
    have : j.val ≤ k.val := h
    exact_mod_cast (show (BitVec.ofNat 32 j.val - 126#32).toInt ≤ (BitVec.ofNat 32 k.val - 126#32).toInt by omega))
  unfold cnt
  constructor
  · intro h
    have hs : Finset.Iic k ⊆ Finset.univ.filter fun k : Fin 240 => Ideal.exp2 (((BitVec.ofNat 32 k.val - 126#32).toInt : ℝ) : EReal) ≤ a :=
      fun j hj => Finset.mem_filter.mpr ⟨Finset.mem_univ _, (mono j k (Finset.mem_Iic.mp hj)).trans h⟩
    have := Finset.card_le_card hs
    rw [Fin.card_Iic] at this
    omega
  · intro h
    by_contra hn
    have hs : (Finset.univ.filter fun k : Fin 240 => Ideal.exp2 (((BitVec.ofNat 32 k.val - 126#32).toInt : ℝ) : EReal) ≤ a) ⊆ Finset.Iio k :=
      fun j hj => Finset.mem_Iio.mpr (lt_of_not_ge fun hjk => hn ((mono k j hjk).trans (Finset.mem_filter.mp hj).2))
    have := Finset.card_le_card hs
    rw [Fin.card_Iio] at this
    omega

theorem ofBits_m126 : (Ideal.ofBits .f32 3271294976#32 : EReal) = ((-126 : ℝ) : EReal) := by
  show Ideal.ieee 8 23 (3271294976#32 : BitVec 32) = _
  simp [Ideal.ieee]
  norm_num
  rw [← EReal.coe_mul]
  norm_num

theorem ofBits_least : (Ideal.ofBits .f32 8388608#32 : EReal) = Ideal.exp2 (((BitVec.ofNat 32 0 - 126#32).toInt : ℝ) : EReal) :=
  ofBits_pow (BitVec.ofNat 32 0 - 126#32) (by decide) (by decide)

/-- The least normal power is reached exactly when some power is. -/
theorem least_iff (a : EReal) : (Ideal.ofBits .f32 8388608#32 : EReal) ≤ a ↔ 0 < cnt a := by
  rw [ofBits_least]
  exact reach_iff a 0

/-- The largest exponent whose half a value reaches is the number of powers reached, less 126. -/
theorem largest (a : EReal) (h : 0 < cnt a) :
    Finset.fold max (Ideal.ofBits .f32 4286578688#32 : EReal) (fun x : Fin 1 × Fin 240 =>
        if Ideal.exp2 ((((IntOp.subi (BitVec.ofNat 32 ↑x.2) 125#32).toInt : ℝ) : EReal) - 1) ≤ a
          then (((IntOp.subi (BitVec.ofNat 32 ↑x.2) 125#32).toInt : ℝ) : EReal) else Ideal.ofBits .f32 3271294976#32) Finset.univ
      = (((BitVec.ofNat 32 (cnt a) - 126#32).toInt : ℝ) : EReal) := by
  have hle := cnt_le a
  have hn : (BitVec.ofNat 32 (cnt a) - 126#32).toInt = (cnt a : ℤ) - 126 := by
    generalize cnt a = n at hle
    have h1 : (BitVec.ofNat 32 n).toInt = n := by rw [BitVec.toInt_eq_toNat_cond, BitVec.toNat_ofNat]; split <;> omega
    rw [BitVec.toInt_sub, h1, show (126#32 : BitVec 32).toInt = 126 by decide, Int.bmod_def]
    omega
  have hk : ∀ k : Fin 240, (IntOp.subi (BitVec.ofNat 32 k.val) 125#32).toInt = (k.val : ℤ) - 125 := fun k => lane_toInt k 125 (by omega)
  have hr : ∀ k : Fin 240, Ideal.exp2 ((((IntOp.subi (BitVec.ofNat 32 k.val) 125#32).toInt : ℝ) : EReal) - 1) ≤ a ↔ k.val < cnt a := by
    intro k
    rw [← reach_iff, lane_toInt k 126 (by omega), hk]
    have : ((((k.val : ℤ) - 125 : ℤ) : ℝ) : EReal) - 1 = ((((k.val : ℤ) - (126 : ℕ) : ℤ) : ℝ) : EReal) := by
      rw [← EReal.coe_one, ← EReal.coe_sub]
      congr 1
      push_cast
      ring
    rw [this]
  rw [hn, ofBits_m126]
  apply le_antisymm
  · rw [Finset.fold_max_le]
    refine ⟨by rw [show (Ideal.ofBits .f32 4286578688#32 : EReal) = ⊥ from ofBits_neg_inf]; exact bot_le, fun x _ => ?_⟩
    split
    · rename_i hx
      have hx' := (hr x.2).mp hx
      rw [hk]
      exact EReal.coe_le_coe_iff.mpr (by exact_mod_cast (show ((x.2.val : ℤ) - 125) ≤ (cnt a : ℤ) - 126 by omega))
    · exact EReal.coe_le_coe_iff.mpr (by exact_mod_cast (show (-126 : ℤ) ≤ (cnt a : ℤ) - 126 by omega))
  · rw [Finset.le_fold_max]
    refine Or.inr ⟨(0, ⟨cnt a - 1, by omega⟩), Finset.mem_univ _, ?_⟩
    have hx := (hr ⟨cnt a - 1, by omega⟩).mpr (by show cnt a - 1 < cnt a; omega)
    rw [if_pos hx, hk]
    exact EReal.coe_le_coe_iff.mpr (by exact_mod_cast (show (cnt a : ℤ) - 126 ≤ (((cnt a - 1 : ℕ) : ℤ) - 125) by omega))

/-- The exponent spelt with a positive count and a finite value. -/
theorem expo_masked (A : EReal) (C : BitVec 32) (hC : C = BitVec.ofNat 32 (cnt (A * Ideal.ofBits .f32 932333861#32))) :
    (if A = 0 then 0#32 else Scalar.select (IntOp.andi (IntOp.cmpi CmpIPredicate.sgt C 0#32)
      (BitVec.ofBool (decide (A * Ideal.ofBits .f32 932333861#32 < (Ideal.ofBits .f32 2139095040#32 : EReal)))))
      (IntOp.subi C 126#32) 0#32) = expo A := by
  unfold expo
  split
  · rfl
  · have hle := cnt_le (A * Ideal.ofBits .f32 932333861#32)
    rw [show (Ideal.ofBits .f32 2139095040#32 : EReal) = ⊤ from ofBits_inf]
    have hs : IntOp.cmpi CmpIPredicate.sgt C 0#32 = BitVec.ofBool (decide (0 < cnt (A * Ideal.ofBits .f32 932333861#32))) := by
      rw [hC]
      generalize cnt (A * Ideal.ofBits .f32 932333861#32) = n at hle
      show BitVec.ofBool (BitVec.slt (0#32) (BitVec.ofNat 32 n)) = _
      congr 1
      have h1 : (BitVec.ofNat 32 n).toInt = n := by rw [BitVec.toInt_eq_toNat_cond, BitVec.toNat_ofNat]; split <;> omega
      rw [BitVec.slt, h1, show (0#32 : BitVec 32).toInt = 0 by decide, decide_eq_decide]
      omega
    have hand : ∀ p q : Bool, IntOp.andi (BitVec.ofBool p) (BitVec.ofBool q) = 1 ↔ p = true ∧ q = true := by decide
    unfold Scalar.select
    rw [hs]
    have := hand (decide (0 < cnt (A * Ideal.ofBits .f32 932333861#32))) (decide (A * Ideal.ofBits .f32 932333861#32 < (⊤ : EReal)))
    rw [decide_eq_true_iff, decide_eq_true_iff] at this
    by_cases h : 0 < cnt (A * Ideal.ofBits .f32 932333861#32) ∧ A * Ideal.ofBits .f32 932333861#32 < (⊤ : EReal)
    · rw [if_pos h, if_pos (this.mpr h), hC]; rfl
    · rw [if_neg h, if_neg (fun h' => h (this.mp h'))]

/-- The exponent spelt as the largest one reached, for a normal value. -/
theorem expo_plain (A M : EReal)
    (hM : 0 < cnt (A * Ideal.ofBits .f32 932333861#32) → M = (((BitVec.ofNat 32 (cnt (A * Ideal.ofBits .f32 932333861#32)) - 126#32).toInt : ℝ) : EReal)) :
    (if A = 0 then 0 else Scalar.select (Scalar.andi
        (BitVec.ofBool (decide ((Ideal.ofBits .f32 8388608#32 : EReal) ≤ A * Ideal.ofBits .f32 932333861#32)))
        (BitVec.ofBool (decide (A * Ideal.ofBits .f32 932333861#32 < (Ideal.ofBits .f32 2139095040#32 : EReal)))))
      M 0) = (((expo A).toInt : ℝ) : EReal) := by
  have h0 : (0 : EReal) = (((0#32 : BitVec 32).toInt : ℝ) : EReal) := by simp
  unfold expo
  split
  · exact h0
  · rw [show (Ideal.ofBits .f32 2139095040#32 : EReal) = ⊤ from ofBits_inf]
    have hand : ∀ p q : Bool, Scalar.andi (BitVec.ofBool p) (BitVec.ofBool q) = 1 ↔ p = true ∧ q = true := by decide
    have := hand (decide ((Ideal.ofBits .f32 8388608#32 : EReal) ≤ A * Ideal.ofBits .f32 932333861#32))
      (decide (A * Ideal.ofBits .f32 932333861#32 < (⊤ : EReal)))
    rw [decide_eq_true_iff, decide_eq_true_iff] at this
    replace this := this.trans (and_congr_left' (least_iff _))
    unfold Scalar.select
    by_cases h : 0 < cnt (A * Ideal.ofBits .f32 932333861#32) ∧ A * Ideal.ofBits .f32 932333861#32 < (⊤ : EReal)
    · rw [if_pos h, if_pos (this.mpr h)]; exact hM h.1
    · rw [if_neg h, if_neg (fun h' => h (this.mp h'))]; exact h0

/-- Negating the exponent as words and as integers agree on its range. -/
theorem toInt_neg_expo (A : EReal) : (0#32 - expo A).toInt = -(expo A).toInt := by
  have h := expo_range A
  rw [BitVec.toInt_sub, BitVec.toInt_zero, Int.bmod_def]
  omega

/-- The scale, written as a word, is the power of the exponent. -/
theorem scale_word (A : EReal) : (Ideal.ofBits .f32 (IntOp.shli ArithUnit.vector (IntOp.addi (expo A) 127#32) 23#32) : EReal)
    = Ideal.exp2 (((expo A).toInt : ℝ) : EReal) := by
  have h := expo_range A
  exact ofBits_pow _ h.1 (by omega)

/-- So is its reciprocal, of the negated exponent. -/
theorem inv_word (A : EReal) : (Ideal.ofBits .f32 (IntOp.shli ArithUnit.vector (IntOp.addi (IntOp.subi (0#32) (expo A)) 127#32) 23#32) : EReal)
    = Ideal.exp2 (((0#32 - expo A).toInt : ℝ) : EReal) := by
  have h := expo_range A
  have h' := toInt_neg_expo A
  exact ofBits_pow _ (by show -126 ≤ (0#32 - expo A).toInt; omega) (by show (0#32 - expo A).toInt ≤ 127; omega)

end Cert.Scale

end
-- ==== Proof.IdealAmaxFinal.lean ====
/- What the first region leaves in its two arrays, read at the ideal values: the quantisation scale of the whole gradient
   and its reciprocal, both powers of two by the exponent of the largest magnitude. -/
module

public import proofs.«01_k».proof.Proof.IdealAmaxValue
public import proofs.«01_k».proof.Proof.ScaleMath

@[expose] public section

noncomputable section

namespace Cert.KernelIdeal.Run

open Idealize.ShloMosaic Idealize.ShloMosaic.TcCoe Idealize.SL.Sem
open Idealize.ShloMosaic.Pipeline (Dat)
open Cert.KernelIdeal Cert.KernelIdeal.Gen

/-- A maximum over a whole index type is at most a bound exactly when every entry is. -/
theorem foldMax_le {ι : Type} [Fintype ι] (f : ι → EReal) (b : EReal) : Finset.fold max ⊥ f Finset.univ ≤ b ↔ ∀ x, f x ≤ b := by
  rw [Finset.fold_max_le]
  exact ⟨fun h x => h.2 x (Finset.mem_univ x), fun h => ⟨bot_le, fun x _ => h x⟩⟩

/-- The largest of the magnitudes in a table of values. -/
def amx (f : Fin 32768 → Fin 1280 → EReal) : EReal :=
  Finset.fold max (Ideal.ofBits .f32 0xFF800000#32) (fun x : Fin 32768 × Fin 1280 => max (f x.1 x.2) (-f x.1 x.2)) Finset.univ

/-- It is at most a bound exactly when every magnitude is. -/
theorem amx_le (f : Fin 32768 → Fin 1280 → EReal) (b : EReal) : amx f ≤ b ↔ ∀ R l, max (f R l) (-f R l) ≤ b := by
  unfold amx
  rw [show (Ideal.ofBits .f32 0xFF800000#32 : EReal) = ⊥ from Cert.Scale.ofBits_neg_inf, foldMax_le]
  exact ⟨fun h R l => h (R, l), fun h x => h x.1 x.2⟩

/-! ## The body's values at an index -/

/-- A block's column maxima are at most a bound exactly when the magnitudes they are over are. -/
theorem pay1_le (x : Vec Ideal S2048x1280 .bf16) (r : Fin 16) (l : Fin 1280) (b : EReal) :
    (k0_pay1 x (ix2 r l) : EReal) ≤ b ↔ ∀ R : Fin 2048, R.val % 16 = r.val → max (x (ix2 R l) : EReal) (-x (ix2 R l)) ≤ b := by
  pointwise [k0_pay1]
  rw [show (Ideal.ofBits .bf16 65408#16 : EReal) = ⊥ from Cert.Scale.ofBits_neg_inf_bf16]
  refine (foldMax_le _ b).trans ?_
  constructor
  · intro h R hR
    have hr := r.isLt
    have hR' := R.isLt
    have := h ⟨R.val / 16, by omega⟩
    have e : R = ⟨(R.val / 16) * 16 + r.val, by omega⟩ := Fin.ext (by dsimp only; omega)
    rw [e]
    exact this
  · intro h
    intro k
    have hk := k.isLt
    have hr := r.isLt
    exact h ⟨k.val * 16 + r.val, by omega⟩ (by dsimp only; omega)

/-- The largest of a scratch's values. -/
def smax (v : Vec Ideal S16x1280 .bf16) : EReal :=
  Finset.fold max (Ideal.ofBits FTy.f32 4286578688#32) (fun x : Fin 16 × Fin 1280 => (v (ix2 x.1 x.2) : EReal)) Finset.univ

theorem smax_le (v : Vec Ideal S16x1280 .bf16) (b : EReal) : smax v ≤ b ↔ ∀ r l, (v (ix2 r l) : EReal) ≤ b := by
  unfold smax
  rw [show (Ideal.ofBits .f32 4286578688#32 : EReal) = ⊥ from Cert.Scale.ofBits_neg_inf, foldMax_le]
  exact ⟨fun h R l => h (R, l), fun h x => h x.1 x.2⟩

/-- The exponent the last point computes is that of the largest value of the scratch. -/
theorem pay5_apply (v : Vec Ideal S16x1280 .bf16) : k0_pay5 v (ix2 0 0) = Cert.Scale.expo (smax v) := by
  pointwise [k0_pay5]
  exact Cert.Scale.expo_masked (smax v) _ (Cert.Scale.count_masked _)

theorem pay6_apply (v : Vec Ideal S16x1280 .bf16) :
    k0_pay6 v (ix2 0 0) = Ideal.exp2 (((Cert.Scale.expo (smax v)).toInt : ℝ) : EReal) := by
  rw [← Cert.Scale.scale_word, ← pay5_apply]
  pointwise [k0_pay6]

theorem pay4_apply (v : Vec Ideal S16x1280 .bf16) :
    k0_pay4 (F := Ideal) (k0_pay5 v) (ix2 0 0) = Ideal.exp2 (((0#32 - Cert.Scale.expo (smax v)).toInt : ℝ) : EReal) := by
  rw [← Cert.Scale.inv_word, ← pay5_apply]
  pointwise [k0_pay4]

/-! ## The region -/

variable (V : (c : Dev nD) → (b : Ref sig .tc) → Buf (Elt Ideal) ((c : Thread nD τ).loc b)) (c : Dev nD)

/-- The gradient as the region finds it. -/
abbrev dyA0 : Vec Ideal S32768x1280 .bf16 := V c main_v1

theorem idx0_0 : ∀ t : Fin grid0.N, win0_0.index t 0 = t.val ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = 0 ∧ win0_2.index t 1 = 0 := by decide +kernel

theorem iblk0_0_apply (t : Fin cfg0.N) (y : S2048x1280.Idx) (a : Fin 32768) (b : Fin 1280)
    (ha : a.val = 2048 * t.val + (y 0).val) (hb : b.val = (y 1).val) :
    (iblk0 V c 0 t : Vec Ideal S2048x1280 .bf16) y = dyA0 V c (ix2 a b) := by
  unfold iblk0
  rw [View.read_apply]
  refine congrArg (dyA0 V c) (funext fun d => Fin.ext ?_)
  match d with
  | ⟨0, _⟩ => show win0_0.index t 0 * 2048 + 1 * (y 0).val = a.val; rw [(idx0_0 t).1]; omega
  | ⟨1, _⟩ => show win0_0.index t 1 * 1280 + 1 * (y 1).val = b.val; rw [(idx0_0 t).2]; omega

/-- A point's column maxima, as a bound on its rows of the gradient. -/
theorem blk_le (t : Fin cfg0.N) (r : Fin 16) (l : Fin 1280) (b : EReal) :
    (k0_pay1 (iblk0 V c 0 t : Vec Ideal S2048x1280 .bf16) (ix2 r l) : EReal) ≤ b
      ↔ ∀ R : Fin 32768, R.val / 2048 = t.val → R.val % 16 = r.val → max (dyA0 V c (ix2 R l) : EReal) (-dyA0 V c (ix2 R l)) ≤ b := by
  rw [pay1_le]
  have hN : t.val < 16 := lt_of_lt_of_eq t.isLt (show cfg0.N = 16 from N_0)
  constructor
  · intro h R hR hr
    have := h ⟨R.val % 2048, by omega⟩ (by dsimp only; omega)
    rw [iblk0_0_apply V c t (ix2 ⟨R.val % 2048, by omega⟩ l) R l (by show R.val = 2048 * t.val + R.val % 2048; omega) rfl] at this
    exact this
  · intro h R hr
    have hR := R.isLt
    have := h ⟨2048 * t.val + R.val, by omega⟩ (by dsimp only; omega) (by dsimp only; omega)
    rw [iblk0_0_apply V c t (ix2 R l) ⟨2048 * t.val + R.val, by omega⟩ l rfl rfl]
    exact this

/-- After a point before the last the scratch holds the column maxima of the rows so far. -/
theorem scratch_le : ∀ (n : ℕ) (hn : n < 15) (hn' : n < cfg0.N) (r : Fin 16) (l : Fin 1280) (b : EReal),
    ((outsAt0 V c n hn').2.2 (ix2 r l) : EReal) ≤ b
      ↔ ∀ R : Fin 32768, R.val / 2048 ≤ n → R.val % 16 = r.val → max (dyA0 V c (ix2 R l) : EReal) (-dyA0 V c (ix2 R l)) ≤ b
  | 0, _, hn', r, l, b => by
    have e := outsAt0_A V c ⟨0, hn'⟩ (by dsimp only) (by dsimp only; omega) (by dsimp only; omega)
    dsimp only at e
    rw [e]
    dsimp only
    rw [sout_A, blk_le]
    refine forall_congr' fun R => ?_
    rw [Nat.le_zero]
  | n + 1, hn, hn', r, l, b => by
    have e := outsAt0_B V c ⟨n + 1, hn'⟩ (by dsimp only; omega) (by dsimp only; omega) (by dsimp only; omega)
    dsimp only at e
    rw [e]
    dsimp only
    rw [sout_B]
    refine (max_le_iff (α := EReal)).trans ?_
    rw [blk_le]
    have ih := scratch_le n (by omega) (Nat.lt_of_succ_lt hn') r l b
    refine (and_congr_left' ih).trans ?_
    constructor
    · intro h R hR hr
      by_cases hq : R.val / 2048 ≤ n
      · exact h.1 R hq hr
      · exact h.2 R (by dsimp only; omega) hr
    · intro h
      exact ⟨fun R hR hr => h R (by omega) hr, fun R hR hr => h R (by dsimp only at hR; omega) hr⟩

/-- The largest magnitude of the gradient. -/
abbrev amaxA : EReal := amx fun R l => dyA0 V c (ix2 R l)

/-- The scratch the last point completes has the gradient's largest magnitude as its largest value. -/
theorem smax_last (t : Fin cfg0.N) (ht : t.val = 15) :
    smax (maximumf (outsAt0 V c (t.val - 1) (Nat.lt_of_le_of_lt (Nat.sub_le _ _) t.isLt)).2.2 (k0_pay1 (iblk0 V c 0 t : Vec Ideal S2048x1280 .bf16)))
      = amaxA V c := by
  refine eq_of_forall_ge_iff fun b => ?_
  rw [smax_le, amx_le]
  have key : ∀ r l, ((maximumf (outsAt0 V c (t.val - 1) (Nat.lt_of_le_of_lt (Nat.sub_le _ _) t.isLt)).2.2
      (k0_pay1 (iblk0 V c 0 t : Vec Ideal S2048x1280 .bf16)) (ix2 r l) : EReal) ≤ b)
      ↔ ∀ R : Fin 32768, R.val % 16 = r.val → max (dyA0 V c (ix2 R l) : EReal) (-dyA0 V c (ix2 R l)) ≤ b := by
    intro r l
    refine (max_le_iff (α := EReal)).trans ?_
    rw [blk_le]
    refine (and_congr_left' (scratch_le V c (t.val - 1) (by omega) (Nat.lt_of_le_of_lt (Nat.sub_le _ _) t.isLt) r l b)).trans ?_
    constructor
    · intro h R hr
      have hR := R.isLt
      by_cases hq : R.val / 2048 ≤ t.val - 1
      · exact h.1 R hq hr
      · exact h.2 R (by omega) hr
    · intro h
      exact ⟨fun R _ hr => h R hr, fun R _ hr => h R hr⟩
  constructor
  · intro h R l
    exact (key ⟨R.val % 16, by omega⟩ l).mp (h _ _) R rfl
  · intro h r l
    exact (key r l).mpr fun R _ => h R l

theorem idx11' (p q : S1x1.Idx) : p = q := funext fun d => by
  match d with
  | ⟨0, _⟩ => exact Subsingleton.elim (α := Fin 1) _ _
  | ⟨1, _⟩ => exact Subsingleton.elim (α := Fin 1) _ _

/-- The scale and its reciprocal, as arrays of one element. -/
def scaleArr : Vec Ideal S1x1 .f32 := fun _ => Ideal.exp2 (((Cert.Scale.expo (amaxA V c)).toInt : ℝ) : EReal)
def invArr : Vec Ideal S1x1 .f32 := fun _ => Ideal.exp2 (((0#32 - Cert.Scale.expo (amaxA V c)).toInt : ℝ) : EReal)

theorem outs_scale (t : Fin cfg0.N) (ht : t.val = 15) : (outsAt0 V c t.val t.isLt).1 = scaleArr V c := by
  rw [outsAt0_C V c t (by omega) (by omega) (by omega)]
  dsimp only
  rw [out_C_1]
  funext y
  rw [idx11' y (ix2 0 0), pay6_apply, smax_last V c t ht]
  rfl

theorem outs_inv (t : Fin cfg0.N) (ht : t.val = 15) : (outsAt0 V c t.val t.isLt).2.1 = invArr V c := by
  rw [outsAt0_C V c t (by omega) (by omega) (by omega)]
  dsimp only
  rw [out_C_2]
  funext y
  rw [idx11' y (ix2 0 0), pay4_apply, smax_last V c t ht]
  rfl

theorem last_of (t : Fin cfg0.N) (h : t.val % 16 = 15) : t.val = 15 := by
  have hN : t.val < 16 := lt_of_lt_of_eq t.isLt (show cfg0.N = 16 from N_0)
  omega

/-- The scale's array ends holding the scale of the whole gradient. -/
theorem finalScale : (dat0 V c).arrAt 1 cfg0.N = scaleArr V c :=
  (dat0 V c).arrAt_eq_of_cover 1 (scaleArr V c) (fun t hf => by
    have ht := last_of t ((flush0_1 t).mp hf)
    show (cfg0.win 1).cut (grid0.coords t) ((dat0 V c).after 1 t) = _
    rw [after0_1, outs_scale V c t ht]
    funext y
    rw [View.read_apply]
    rfl) fun i => by
      obtain ⟨t, ht⟩ : ∃ t : Fin cfg0.N, t.val % 16 = 15 := ⟨⟨15, by rw [show cfg0.N = 16 from N_0]; decide⟩, rfl⟩
      refine ⟨t, (flush0_1 t).mpr ht, ?_⟩
      show i ∈ ((View.whole main_v2_0).slice (win0_1.rect t)).set
      rw [View.set_slice_whole, Rect.mem_set_unit]
      have h0 : ((i : S1x1.Idx) 0).val < 1 := ((i : S1x1.Idx) 0).isLt
      have h1 : ((i : S1x1.Idx) 1).val < 1 := ((i : S1x1.Idx) 1).isLt
      have hi := idx0_1 t
      intro a
      match a with
      | ⟨0, _⟩ => show win0_1.index t 0 * 1 ≤ ((i : S1x1.Idx) 0).val ∧ ((i : S1x1.Idx) 0).val < win0_1.index t 0 * 1 + 1
                  rw [hi.1]; omega
      | ⟨1, _⟩ => show win0_1.index t 1 * 1 ≤ ((i : S1x1.Idx) 1).val ∧ ((i : S1x1.Idx) 1).val < win0_1.index t 1 * 1 + 1
                  rw [hi.2]; omega

/-- The reciprocal's array ends holding the reciprocal of the scale of the whole gradient. -/
theorem finalInv : (dat0 V c).arrAt 2 cfg0.N = invArr V c :=
  (dat0 V c).arrAt_eq_of_cover 2 (invArr V c) (fun t hf => by
    have ht := last_of t ((flush0_2 t).mp hf)
    show (cfg0.win 2).cut (grid0.coords t) ((dat0 V c).after 2 t) = _
    rw [after0_2, outs_inv V c t ht]
    funext y
    rw [View.read_apply]
    rfl) fun i => by
      obtain ⟨t, ht⟩ : ∃ t : Fin cfg0.N, t.val % 16 = 15 := ⟨⟨15, by rw [show cfg0.N = 16 from N_0]; decide⟩, rfl⟩
      refine ⟨t, (flush0_2 t).mpr ht, ?_⟩
      show i ∈ ((View.whole main_v2_1).slice (win0_2.rect t)).set
      rw [View.set_slice_whole, Rect.mem_set_unit]
      have h0 : ((i : S1x1.Idx) 0).val < 1 := ((i : S1x1.Idx) 0).isLt
      have h1 : ((i : S1x1.Idx) 1).val < 1 := ((i : S1x1.Idx) 1).isLt
      have hi := idx0_2 t
      intro a
      match a with
      | ⟨0, _⟩ => show win0_2.index t 0 * 1 ≤ ((i : S1x1.Idx) 0).val ∧ ((i : S1x1.Idx) 0).val < win0_2.index t 0 * 1 + 1
                  rw [hi.1]; omega
      | ⟨1, _⟩ => show win0_2.index t 1 * 1 ≤ ((i : S1x1.Idx) 1).val ∧ ((i : S1x1.Idx) 1).val < win0_2.index t 1 * 1 + 1
                  rw [hi.2]; omega

end Cert.KernelIdeal.Run

end
-- ==== Proof.RefValue.lean ====
/- What the reference leaves in its three results, read at the ideal values. -/
module

public import proofs.«01_k».proof.Proof.IdealMatmulFinal
public import proofs.«01_k».proof.Proof.IdealAmaxFinal
public import proofs.«01_k».proof.Proof.Gen.ReferenceIdeal.Frame

@[expose] public section

noncomputable section

namespace Cert.ReferenceIdeal.Run

open Idealize.ShloMosaic Idealize.ShloMosaic.TcCoe Idealize.SL.Sem
open Idealize.ShloMosaic.Pipeline (Dat)
open Cert.ReferenceIdeal Cert.ReferenceIdeal.Gen
open Cert.KernelIdeal.Run (amx qv)
open Cert.Scale (expo)

/-- The zero offsets of a rank-2 rectangle, as the constant function. -/
theorem hz2 : (![0, 0] : Fin 2 → Nat) = fun _ => 0 := funext fun a => by fin_cases a <;> rfl

/-- The largest magnitude of a gradient. -/
abbrev amaxOf (v : Vec Ideal S32768x1280 .bf16) : EReal := amx fun R l => v (ix2 R l)

theorem pay3_apply (v : Vec Ideal S32768x1280 .bf16) (j : S32768x1280.Idx) : (k0_pay3 v j : EReal) = v j := by
  unfold k0_pay3
  simp only [shapeCast_self]
  rfl

/-- The reference's exponent is that of the largest magnitude. -/
theorem pay4_apply (v : Vec Ideal S32768x1280 .bf16) : (k0_pay4 v : EReal) = (((expo (amaxOf v)).toInt : ℝ) : EReal) := by
  pointwise [k0_pay4]
  simp only [pay3_apply]
  have hA : (Finset.fold max (Ideal.ofBits FTy.f32 4286578688#32) (fun x : Fin 32768 × Fin 1280 => FloatOps.absf (v (ix2 x.1 x.2))) Finset.univ
      : Ideal .f32) = amaxOf v := rfl
  generalize amaxOf v = A at hA ⊢
  rw [hA]
  clear hA
  exact Cert.Scale.expo_plain A _ (Cert.Scale.largest _)

/-- The reference's scale is the power of two by it. -/
theorem pay5_apply (v : Vec Ideal S32768x1280 .bf16) : (k0_pay5 v : EReal) = Ideal.exp2 (((expo (amaxOf v)).toInt : ℝ) : EReal) := by
  have h := pay4_apply v
  unfold k0_pay5
  generalize k0_pay4 v = e at h ⊢
  rw [h]
  rfl

theorem neg_expo (A : EReal) : (0 : EReal) - (((expo A).toInt : ℝ) : EReal) = (((0#32 - expo A).toInt : ℝ) : EReal) := by
  rw [Cert.Scale.toInt_neg_expo, ← EReal.coe_zero, ← EReal.coe_sub]
  congr 1
  push_cast
  ring

/-- The reference's codes, from its exponent: each element times the reciprocal of the scale, clipped. -/
theorem pay6_gen (v : Vec Ideal S32768x1280 .bf16) (j : S32768x1280.Idx) (e : Ideal .f32) (he : k0_pay4 v = e) :
    (k0_pay6 v j : EReal) = qv (v j) (Ideal.exp2 ((0 : EReal) - e)) := by
  unfold k0_pay6
  rw [he]
  clear he
  have h3 := pay3_apply v j
  generalize k0_pay3 v = w at h3 ⊢
  rw [← h3]
  clear h3
  idx_vars j
  pointwise []
  rfl

/-- The reference's codes. -/
theorem pay6_apply (v : Vec Ideal S32768x1280 .bf16) (j : S32768x1280.Idx) :
    (k0_pay6 v j : EReal) = qv (v j) (Ideal.exp2 (((0#32 - expo (amaxOf v)).toInt : ℝ) : EReal)) := by
  have h := pay6_gen v j _ (pay4_apply v)
  rw [neg_expo] at h
  exact h

/-- The reference's weight gradient at an element: the old one plus the scaled contraction. -/
theorem pay1_apply (s : EReal) (q : Vec Ideal S32768x1280 .fp8e5m2) (x : Vec Ideal S32768x8192 .fp8e4m3)
    (d : Vec Ideal S8192x1280 .f32) (xs : Vec Ideal S1x1 .f32) (j : S8192x1280.Idx) :
    (k0_pay1 (F := Ideal) s q (k0_pay7 x) d xs j : EReal)
      = d j + (∑ n : Fin 32768, (x (ix2 n (j 0)) * q (ix2 n (j 1)) : EReal)) * (xs (ix2 0 0) * s) := by
  idx_vars j
  pointwise [k0_pay1, k0_pay7]

/-! ## The results, as functions of the flattened operands -/

/-- The scale of a gradient, and its reciprocal. -/
def sclOf (d : Vec Ideal S32768x1280 .bf16) : EReal := Ideal.exp2 (((expo (amaxOf d)).toInt : ℝ) : EReal)
def invOf (d : Vec Ideal S32768x1280 .bf16) : EReal := Ideal.exp2 (((0#32 - expo (amaxOf d)).toInt : ℝ) : EReal)
/-- The codes of a gradient. -/
def codesRes (d : Vec Ideal S32768x1280 .bf16) : Vec Ideal S32768x1280 .fp8e5m2 := fun j => qv (d j) (invOf d)
/-- The scale as an array of one element. -/
def scaleRes (d : Vec Ideal S32768x1280 .bf16) : Vec Ideal S1x1 .f32 := fun _ => sclOf d
/-- The weight gradient: the old one plus the scaled contraction of the activations with the codes. -/
def dwRes (x : Vec Ideal S32768x8192 .fp8e4m3) (d : Vec Ideal S32768x1280 .bf16) (xs : Vec Ideal S1x1 .f32) (w : Vec Ideal S8192x1280 .f32) :
    Vec Ideal S8192x1280 .f32 := fun j =>
  w j + (∑ n : Fin 32768, (x (ix2 n (j 0)) * codesRes d (ix2 n (j 1)) : EReal)) * (xs (ix2 0 0) * sclOf d)

theorem out_4 (x0 : Vec Ideal S32768x8192 .fp8e4m3) (x1 : Vec Ideal S1x1 .f32) (x2 : Vec Ideal S32768x1280 .bf16) (x3 : Vec Ideal S8192x1280 .f32) :
    out0_4 x0 x1 x2 x3 = dwRes x0 x2 x1 x3 := by
  unfold out0_4 Gen.k0_pay8
  rw [View.canon_unit_zero hz2, View.ld_unit_zero hz2, View.ld_unit_zero hz2, View.ld_unit_zero hz2, View.ld_unit_zero hz2]
  funext j
  refine (pay1_apply _ _ x0 x3 x1 j).trans ?_
  unfold dwRes
  rw [pay5_apply]
  refine congrArg (fun s : EReal => x3 j + s * (x1 (ix2 0 0) * sclOf x2)) (Finset.sum_congr rfl fun n _ => ?_)
  exact congrArg (fun q : EReal => x0 (ix2 n (j 0)) * q) (pay6_apply x2 _)

theorem out_5 (x0 : Vec Ideal S32768x8192 .fp8e4m3) (x1 : Vec Ideal S1x1 .f32) (x2 : Vec Ideal S32768x1280 .bf16) (x3 : Vec Ideal S8192x1280 .f32) :
    out0_5 x0 x1 x2 x3 = codesRes x2 := by
  unfold out0_5 Gen.k0_pay8
  rw [View.canon_unit_zero hz2, View.ld_unit_zero hz2]
  funext j
  exact pay6_apply x2 j

theorem pay2_apply (s : EReal) (j : S1x1.Idx) : (k0_pay2 (F := Ideal) s j : EReal) = s := by
  unfold k0_pay2
  rfl

theorem out_6 (x0 : Vec Ideal S32768x8192 .fp8e4m3) (x1 : Vec Ideal S1x1 .f32) (x2 : Vec Ideal S32768x1280 .bf16) (x3 : Vec Ideal S8192x1280 .f32) :
    out0_6 x0 x1 x2 x3 = scaleRes x2 := by
  unfold out0_6
  rw [View.canon_unit_zero (S := S1x1) hz2, View.ld_unit_zero hz2]
  funext j
  exact (pay2_apply _ j).trans (pay5_apply x2)

/-! ## The region: one point, every block its whole array -/

variable (m : (ℓ : Loc nD τ sig) → Buf (Elt Ideal) ℓ) (ρ : Dev nD → PrngReg) (c : Dev nD)

theorem idx_0 : ∀ t : Fin grid0.N, win0_0.index t 0 = 0 ∧ win0_0.index t 1 = 0 := by decide +kernel
theorem idx_1 : ∀ t : Fin grid0.N, win0_1.index t 0 = 0 ∧ win0_1.index t 1 = 0 := by decide +kernel
theorem idx_2 : ∀ t : Fin grid0.N, win0_2.index t 0 = 0 ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = 0 ∧ win0_4.index t 1 = 0 := by decide +kernel
theorem idx_5 : ∀ t : Fin grid0.N, win0_5.index t 0 = 0 ∧ win0_5.index t 1 = 0 := by decide +kernel
theorem idx_6 : ∀ t : Fin grid0.N, win0_6.index t 0 = 0 ∧ win0_6.index t 1 = 0 := by decide +kernel

abbrev rX : Vec Ideal S32768x8192 .fp8e4m3 := V m c main_v0
abbrev rXs : Vec Ideal S1x1 .f32 := V m c main_v1
abbrev rDy : Vec Ideal S32768x1280 .bf16 := V m c main_v2
abbrev rDw : Vec Ideal S8192x1280 .f32 := V m c main_arg3

theorem iblk_0 (t : Fin cfg0.N) : (iblk m c 0 t : Vec Ideal S32768x8192 .fp8e4m3) = rX m c := by
  unfold iblk
  funext y
  rw [View.read_apply]
  refine congrArg (rX m c) (funext fun d => Fin.ext ?_)
  match d with
  | ⟨0, _⟩ => show win0_0.index t 0 * 32768 + 1 * ((y : S32768x8192.Idx) 0).val = ((y : S32768x8192.Idx) 0).val; rw [(idx_0 t).1]; omega
  | ⟨1, _⟩ => show win0_0.index t 1 * 8192 + 1 * ((y : S32768x8192.Idx) 1).val = ((y : S32768x8192.Idx) 1).val; rw [(idx_0 t).2]; omega

theorem iblk_1 (t : Fin cfg0.N) : (iblk m c 1 t : Vec Ideal S1x1 .f32) = rXs m c := by
  unfold iblk
  funext y
  rw [View.read_apply]
  refine congrArg (rXs m c) (funext fun d => Fin.ext ?_)
  match d with
  | ⟨0, _⟩ => show win0_1.index t 0 * 1 + 1 * ((y : S1x1.Idx) 0).val = ((y : S1x1.Idx) 0).val; rw [(idx_1 t).1]; omega
  | ⟨1, _⟩ => show win0_1.index t 1 * 1 + 1 * ((y : S1x1.Idx) 1).val = ((y : S1x1.Idx) 1).val; rw [(idx_1 t).2]; omega

theorem iblk_2 (t : Fin cfg0.N) : (iblk m c 2 t : Vec Ideal S32768x1280 .bf16) = rDy m c := by
  unfold iblk
  funext y
  rw [View.read_apply]
  refine congrArg (rDy m c) (funext fun d => Fin.ext ?_)
  match d with
  | ⟨0, _⟩ => show win0_2.index t 0 * 32768 + 1 * ((y : S32768x1280.Idx) 0).val = ((y : S32768x1280.Idx) 0).val; rw [(idx_2 t).1]; omega
  | ⟨1, _⟩ => show win0_2.index t 1 * 1280 + 1 * ((y : S32768x1280.Idx) 1).val = ((y : S32768x1280.Idx) 1).val; rw [(idx_2 t).2]; omega

theorem iblk_3 (t : Fin cfg0.N) : (iblk m c 3 t : Vec Ideal S8192x1280 .f32) = rDw m c := by
  unfold iblk
  funext y
  rw [View.read_apply]
  refine congrArg (rDw m c) (funext fun d => Fin.ext ?_)
  match d with
  | ⟨0, _⟩ => show win0_3.index t 0 * 8192 + 1 * ((y : S8192x1280.Idx) 0).val = ((y : S8192x1280.Idx) 0).val; rw [(idx_3 t).1]; omega
  | ⟨1, _⟩ => show win0_3.index t 1 * 1280 + 1 * ((y : S8192x1280.Idx) 1).val = ((y : S8192x1280.Idx) 1).val; rw [(idx_3 t).2]; omega

/-- The array of the weight gradient ends holding it. -/
theorem final_4 : (dats m 0 c).arrAt 4 cfg0.N = dwRes (rX m c) (rDy m c) (rXs m c) (rDw m c) :=
  (dats m 0 c).arrAt_eq_of_cover 4 (dwRes (rX m c) (rDy m c) (rXs m c) (rDw m c)) (fun t hf => by
    show (cfg0.win 4).cut (grid0.coords t) ((dats m 0 c).after 4 t) = _
    rw [after0_4, out_4]
    simp only [iblk_0, iblk_1, iblk_2, iblk_3]
    funext y
    rw [View.read_apply]
    refine congrArg (dwRes (rX m c) (rDy m c) (rXs m c) (rDw m c)) (funext fun d => Fin.ext ?_)
    match d with
    | ⟨0, _⟩ => show ((y : S8192x1280.Idx) 0).val = win0_4.index t 0 * 8192 + 1 * ((y : S8192x1280.Idx) 0).val; rw [(idx_4 t).1]; omega
    | ⟨1, _⟩ => show ((y : S8192x1280.Idx) 1).val = win0_4.index t 1 * 1280 + 1 * ((y : S8192x1280.Idx) 1).val; rw [(idx_4 t).2]; omega) fun i => by
      obtain ⟨t, -⟩ : ∃ t : Fin cfg0.N, True := ⟨⟨0, by decide⟩, trivial⟩
      refine ⟨t, flush0_4 t, ?_⟩
      show i ∈ ((View.whole main_v3_0).slice (win0_4.rect t)).set
      rw [View.set_slice_whole, Rect.mem_set_unit]
      have h0 : ((i : S8192x1280.Idx) 0).val < 8192 := ((i : S8192x1280.Idx) 0).isLt
      have h1 : ((i : S8192x1280.Idx) 1).val < 1280 := ((i : S8192x1280.Idx) 1).isLt
      intro a
      match a with
      | ⟨0, _⟩ => show win0_4.index t 0 * 8192 ≤ ((i : S8192x1280.Idx) 0).val ∧ ((i : S8192x1280.Idx) 0).val < win0_4.index t 0 * 8192 + 8192
                  rw [(idx_4 t).1]; omega
      | ⟨1, _⟩ => show win0_4.index t 1 * 1280 ≤ ((i : S8192x1280.Idx) 1).val ∧ ((i : S8192x1280.Idx) 1).val < win0_4.index t 1 * 1280 + 1280
                  rw [(idx_4 t).2]; omega

/-- The array of the codes ends holding it. -/
theorem final_5 : (dats m 0 c).arrAt 5 cfg0.N = codesRes (rDy m c) :=
  (dats m 0 c).arrAt_eq_of_cover 5 (codesRes (rDy m c)) (fun t hf => by
    show (cfg0.win 5).cut (grid0.coords t) ((dats m 0 c).after 5 t) = _
    rw [after0_5, out_5]
    simp only [iblk_0, iblk_1, iblk_2, iblk_3]
    funext y
    rw [View.read_apply]
    refine congrArg (codesRes (rDy m c)) (funext fun d => Fin.ext ?_)
    match d with
    | ⟨0, _⟩ => show ((y : S32768x1280.Idx) 0).val = win0_5.index t 0 * 32768 + 1 * ((y : S32768x1280.Idx) 0).val; rw [(idx_5 t).1]; omega
    | ⟨1, _⟩ => show ((y : S32768x1280.Idx) 1).val = win0_5.index t 1 * 1280 + 1 * ((y : S32768x1280.Idx) 1).val; rw [(idx_5 t).2]; omega) fun i => by
      obtain ⟨t, -⟩ : ∃ t : Fin cfg0.N, True := ⟨⟨0, by decide⟩, trivial⟩
      refine ⟨t, flush0_5 t, ?_⟩
      show i ∈ ((View.whole main_v3_1).slice (win0_5.rect t)).set
      rw [View.set_slice_whole, Rect.mem_set_unit]
      have h0 : ((i : S32768x1280.Idx) 0).val < 32768 := ((i : S32768x1280.Idx) 0).isLt
      have h1 : ((i : S32768x1280.Idx) 1).val < 1280 := ((i : S32768x1280.Idx) 1).isLt
      intro a
      match a with
      | ⟨0, _⟩ => show win0_5.index t 0 * 32768 ≤ ((i : S32768x1280.Idx) 0).val ∧ ((i : S32768x1280.Idx) 0).val < win0_5.index t 0 * 32768 + 32768
                  rw [(idx_5 t).1]; omega
      | ⟨1, _⟩ => show win0_5.index t 1 * 1280 ≤ ((i : S32768x1280.Idx) 1).val ∧ ((i : S32768x1280.Idx) 1).val < win0_5.index t 1 * 1280 + 1280
                  rw [(idx_5 t).2]; omega

/-- The array of the scale ends holding it. -/
theorem final_6 : (dats m 0 c).arrAt 6 cfg0.N = scaleRes (rDy m c) :=
  (dats m 0 c).arrAt_eq_of_cover 6 (scaleRes (rDy m c)) (fun t hf => by
    show (cfg0.win 6).cut (grid0.coords t) ((dats m 0 c).after 6 t) = _
    rw [after0_6, out_6]
    simp only [iblk_0, iblk_1, iblk_2, iblk_3]
    funext y
    rw [View.read_apply]
    rfl) fun i => by
      obtain ⟨t, -⟩ : ∃ t : Fin cfg0.N, True := ⟨⟨0, by decide⟩, trivial⟩
      refine ⟨t, flush0_6 t, ?_⟩
      show i ∈ ((View.whole main_v3_2).slice (win0_6.rect t)).set
      rw [View.set_slice_whole, Rect.mem_set_unit]
      have h0 : ((i : S1x1.Idx) 0).val < 1 := ((i : S1x1.Idx) 0).isLt
      have h1 : ((i : S1x1.Idx) 1).val < 1 := ((i : S1x1.Idx) 1).isLt
      intro a
      match a with
      | ⟨0, _⟩ => show win0_6.index t 0 * 1 ≤ ((i : S1x1.Idx) 0).val ∧ ((i : S1x1.Idx) 0).val < win0_6.index t 0 * 1 + 1
                  rw [(idx_6 t).1]; omega
      | ⟨1, _⟩ => show win0_6.index t 1 * 1 ≤ ((i : S1x1.Idx) 1).val ∧ ((i : S1x1.Idx) 1).val < win0_6.index t 1 * 1 + 1
                  rw [(idx_6 t).2]; omega

/-! ## The run -/

/-- The flattened operands, from the arguments. -/
abbrev flatX (x : Vec Ideal S8x4096x8192 .fp8e4m3) : Vec Ideal S32768x8192 .fp8e4m3 := shapeCast S32768x8192 x shapeCasts_S8x4096x8192_S32768x8192
abbrev flatXs (x : Vec Ideal S_ .f32) : Vec Ideal S1x1 .f32 := shapeCast S1x1 x shapeCasts_S_S1x1
abbrev flatDy (x : Vec Ideal S8x4096x1280 .bf16) : Vec Ideal S32768x1280 .bf16 := shapeCast S32768x1280 x shapeCasts_S8x4096x1280_S32768x1280

/-- The three results, from the arguments. -/
def res0 (x : Vec Ideal S8x4096x8192 .fp8e4m3) (xs : Vec Ideal S_ .f32) (d : Vec Ideal S8x4096x1280 .bf16) (w : Vec Ideal S8192x1280 .f32) :
    Vec Ideal S8192x1280 .f32 := dwRes (flatX x) (flatDy d) (flatXs xs) w
def res1 (d : Vec Ideal S8x4096x1280 .bf16) : Vec Ideal S8x4096x1280 .fp8e5m2 :=
  shapeCast S8x4096x1280 (codesRes (flatDy d)) shapeCasts_S32768x1280_S8x4096x1280
def res2 (d : Vec Ideal S8x4096x1280 .bf16) : Vec Ideal S_ .f32 := shapeCast S_ (scaleRes (flatDy d)) shapeCasts_S1x1_S_

theorem rX_eq : rX m c = flatX (m ((c : Thread nD τ).loc main_arg0)) := by
  show V0 m c (Proc.devRef .tc main_v0) = _
  simp only [V0, hostOps0, List.flatten_cons, List.flatten_nil, List.append_nil]
  after_results
  rfl
theorem rXs_eq : rXs m c = flatXs (m ((c : Thread nD τ).loc main_arg1)) := by
  show V0 m c (Proc.devRef .tc main_v1) = _
  simp only [V0, hostOps0, List.flatten_cons, List.flatten_nil, List.append_nil]
  after_results
  rfl
theorem rDy_eq : rDy m c = flatDy (m ((c : Thread nD τ).loc main_arg2)) := by
  show V0 m c (Proc.devRef .tc main_v2) = _
  simp only [V0, hostOps0, List.flatten_cons, List.flatten_nil, List.append_nil]
  after_results
  rfl

theorem tail_v4 : Pipeline.afterTail₀ cfgs (dats m) 0 (V0 m) [hostOps1] c main_v4 = res1 (m ((c : Thread nD τ).loc main_arg2)) := by
  have h : Pipeline.withArrays cfg0.spec c (V0 m c) (fun w => (dats m 0 c).arrAt w cfg0.N) (Proc.devRef .tc main_v3_1) = codesRes (rDy m c) :=
    (Pipeline.withArrays_arr cfg0.spec launch0.win.arr_inj c (V0 m c) (fun w => (dats m 0 c).arrAt w cfg0.N) 5).trans (final_5 m c)
  unfold Pipeline.afterTail₀
  show StableHlo.after [_, _] _ _ = _
  generalize Pipeline.withArrays (cfgs 0).spec c (V0 m c) (fun w => (dats m 0 c).arrAt w (cfgs 0).N) = W at h ⊢
  after_results
  unfold res1
  rw [← rDy_eq, ← h]
  rfl

theorem tail_v5 : Pipeline.afterTail₀ cfgs (dats m) 0 (V0 m) [hostOps1] c main_v5 = res2 (m ((c : Thread nD τ).loc main_arg2)) := by
  have h : Pipeline.withArrays cfg0.spec c (V0 m c) (fun w => (dats m 0 c).arrAt w cfg0.N) (Proc.devRef .tc main_v3_2) = scaleRes (rDy m c) :=
    (Pipeline.withArrays_arr cfg0.spec launch0.win.arr_inj c (V0 m c) (fun w => (dats m 0 c).arrAt w cfg0.N) 6).trans (final_6 m c)
  unfold Pipeline.afterTail₀
  show StableHlo.after [_, _] _ _ = _
  generalize Pipeline.withArrays (cfgs 0).spec c (V0 m c) (fun w => (dats m 0 c).arrAt w (cfgs 0).N) = W at h ⊢
  after_results
  unfold res2
  rw [← rDy_eq, ← h]
  rfl

/-- The reference's run: its three results, its arguments unchanged. -/
theorem run : θ_run defs (onTc (τ := τ) (main (F := Ideal))) ⟨m, fun _ => 0, ρ⟩ (fun r => ∀ c : Dev nD,
      r.2.mem ((c : Thread nD τ).loc main_v3_0) = res0 (m ((c : Thread nD τ).loc main_arg0)) (m ((c : Thread nD τ).loc main_arg1))
          (m ((c : Thread nD τ).loc main_arg2)) (m ((c : Thread nD τ).loc main_arg3))
      ∧ r.2.mem ((c : Thread nD τ).loc main_v4) = res1 (m ((c : Thread nD τ).loc main_arg2))
      ∧ r.2.mem ((c : Thread nD τ).loc main_v5) = res2 (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).1 4).trans ((final_4 m c).trans (by
        unfold res0
        rw [rX_eq, rXs_eq, rDy_eq, show rDw m c = m ((c : Thread nD τ).loc main_arg3) from V_main_arg3 m c])),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩) (run_main m ρ)

end Cert.ReferenceIdeal.Run

end
-- ==== Proof.Algebraic.lean ====
/- The kernel's three results, read at the ideal values, and that they are the reference's. -/
module

public import proofs.«01_k».proof.Defs
public import proofs.«01_k».proof.Proof.IdealRun
public import proofs.«01_k».proof.Proof.RefValue

@[expose] public section

noncomputable section

namespace Cert.KernelIdeal.Run

open Idealize.ShloMosaic Idealize.ShloMosaic.TcCoe Idealize.SL.Sem
open Idealize.ShloMosaic.Pipeline (Dat)
open Cert.KernelIdeal Cert.KernelIdeal.Gen
open Cert.ReferenceIdeal.Run (flatX flatXs flatDy sclOf invOf codesRes scaleRes dwRes res0 res1 res2)

variable (m : (ℓ : Loc nD τ sig) → Buf (Elt Ideal) ℓ) (ρ : Dev nD → PrngReg) (c : Dev nD)

/-- The arguments. -/
abbrev argX : Vec Ideal S8x4096x8192 .fp8e4m3 := m ((c : Thread nD τ).loc main_arg0)
abbrev argXs : Vec Ideal S_ .f32 := m ((c : Thread nD τ).loc main_arg1)
abbrev argDy : Vec Ideal S8x4096x1280 .bf16 := m ((c : Thread nD τ).loc main_arg2)
abbrev argDw : Vec Ideal S8192x1280 .f32 := m ((c : Thread nD τ).loc main_arg3)

/-! ## What each region finds -/

theorem W1_v0 : W1 m ρ c (Proc.devRef .tc main_v0) = flatX (argX m c) := by
  unfold W1
  show StableHlo.after [_, _] _ _ = _
  after_results
  rfl

theorem W1_v1 : W1 m ρ c (Proc.devRef .tc main_v1) = flatDy (argDy m c) := by
  unfold W1
  show StableHlo.after [_, _] _ _ = _
  after_results
  rfl

theorem dyA0_eq : dyA0 (V1 m ρ) c = flatDy (argDy m c) := W1_v1 m ρ c

theorem W2_v2_0 : W2 m ρ c (Proc.devRef .tc main_v2_0) = scaleRes (flatDy (argDy m c)) :=
  (W2_arr m ρ c 1).trans ((finalScale (V1 m ρ) c).trans (by
    unfold scaleArr scaleRes sclOf
    rw [show amaxA (V1 m ρ) c = amx fun R l => flatDy (argDy m c) (ix2 R l) from congrArg (fun d : Vec Ideal S32768x1280 .bf16 => amx fun R l => d (ix2 R l)) (dyA0_eq m ρ c)]))

theorem W2_v2_1 : W2 m ρ c (Proc.devRef .tc main_v2_1) = (fun _ => invOf (flatDy (argDy m c)) : Vec Ideal S1x1 .f32) :=
  (W2_arr m ρ c 2).trans ((finalInv (V1 m ρ) c).trans (by
    unfold invArr invOf
    rw [show amaxA (V1 m ρ) c = amx fun R l => flatDy (argDy m c) (ix2 R l) from congrArg (fun d : Vec Ideal S32768x1280 .bf16 => amx fun R l => d (ix2 R l)) (dyA0_eq m ρ c)]))

theorem sclA_eq : sclA (V3 m ρ) c = scaleRes (flatDy (argDy m c)) :=
  (W3_of m ρ c main_v2_0 (by decide)).trans (W2_v2_0 m ρ c)

theorem invA_eq : invA (V3 m ρ) c = (fun _ => invOf (flatDy (argDy m c)) : Vec Ideal S1x1 .f32) :=
  (W3_of m ρ c main_v2_1 (by decide)).trans (W2_v2_1 m ρ c)

theorem xA_eq : xA (V3 m ρ) c = flatX (argX m c) :=
  (W3_of m ρ c main_v0 (by decide)).trans ((W2_of m ρ c main_v0 (by decide)).trans (W1_v0 m ρ c))

theorem dyA_eq : dyA (V3 m ρ) c = flatDy (argDy m c) :=
  (W3_of m ρ c main_v1 (by decide)).trans ((W2_of m ρ c main_v1 (by decide)).trans (W1_v1 m ρ c))

theorem dwA_eq : dwA (V3 m ρ) c = argDw m c := W3_args m ρ c main_arg3 (by decide)

theorem xsA_eq : xsA (V3 m ρ) c = flatXs (argXs m c) := by
  have h : W2 m ρ c (Proc.devRef .tc main_arg1) = m ((c : Thread nD τ).loc main_arg1) := W2_args m ρ c main_arg1 (by decide)
  show W3 m ρ c (Proc.devRef .tc main_v3) = _
  unfold W3
  show StableHlo.after [_] _ _ = _
  after_results
  unfold argXs
  rw [← h]
  rfl

/-! ## What the run leaves -/

theorem codes_eq : codesArr (V3 m ρ) c = codesRes (flatDy (argDy m c)) := by
  unfold codesArr codesRes
  rw [dyA_eq, invA_eq]

theorem dw_eq : dwArr (V3 m ρ) c = res0 (argX m c) (argXs m c) (argDy m c) (argDw m c) := by
  unfold dwArr res0 dwRes codesRes
  rw [dyA_eq, invA_eq, xA_eq, dwA_eq, xsA_eq, sclA_eq]
  rfl

theorem W5_v4_0 : W5 m ρ c (Proc.devRef .tc main_v4_0) = res0 (argX m c) (argXs m c) (argDy m c) (argDw m c) :=
  (W5_of m ρ c main_v4_0 (by decide)).trans ((W4_arr m ρ c 6).trans ((final6 (V3 m ρ) c).trans (dw_eq m ρ c)))

theorem W4_v4_1 : W4 m ρ c (Proc.devRef .tc main_v4_1) = codesRes (flatDy (argDy m c)) :=
  (W4_arr m ρ c 7).trans ((final7 (V3 m ρ) c).trans (codes_eq m ρ c))

theorem W4_v2_0 : W4 m ρ c (Proc.devRef .tc main_v2_0) = scaleRes (flatDy (argDy m c)) :=
  (W4_of m ρ c main_v2_0 (by decide)).trans (sclA_eq m ρ c)

theorem W5_v5 : W5 m ρ c (Proc.devRef .tc main_v5) = res1 (argDy m c) := by
  have h := W4_v4_1 m ρ c
  unfold W5 res1
  show StableHlo.after [_, _] _ _ = _
  after_results
  rw [← h]
  rfl

theorem W5_v6 : W5 m ρ c (Proc.devRef .tc main_v6) = res2 (argDy m c) := by
  have h := W4_v2_0 m ρ c
  unfold W5 res2
  show StableHlo.after [_, _] _ _ = _
  after_results
  rw [← h]
  rfl

/-- The kernel's run: its three results, its arguments unchanged. -/
theorem run : θ_run defs (onTc (τ := τ) (main (F := Ideal))) ⟨m, fun _ => 0, ρ⟩ (fun r => ∀ c : Dev nD,
      r.2.mem ((c : Thread nD τ).loc main_v4_0) = res0 (argX m c) (argXs m c) (argDy m c) (argDw m c)
      ∧ r.2.mem ((c : Thread nD τ).loc main_v5) = res1 (argDy m c)
      ∧ r.2.mem ((c : Thread nD τ).loc main_v6) = res2 (argDy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h.1 c _ (mem_uc main_v4_0 (by decide))).trans (W5_v4_0 m ρ c),
      (h.1 c _ (mem_uc main_v5 (by decide))).trans (W5_v5 m ρ c),
      (h.1 c _ (mem_uc main_v6 (by decide))).trans (W5_v6 m ρ c),
      (h.1 c _ (mem_uc main_arg0 (by decide))).trans (W5_main_arg0 m ρ c),
      (h.1 c _ (mem_uc main_arg1 (by decide))).trans (W5_main_arg1 m ρ c),
      (h.1 c _ (mem_uc main_arg2 (by decide))).trans (W5_main_arg2 m ρ c),
      (h.1 c _ (mem_uc main_arg3 (by decide))).trans (W5_main_arg3 m ρ c)⟩) (run_main m ρ)

/-- On equal arguments the kernel and the reference, read at the ideal values, end with equal results in all three. -/
theorem algebraic : Cert.algebraic_KernelIdeal_ReferenceIdeal (hKernelIdeal := Cert.KernelIdeal.Gen.facts)
    (hReferenceIdeal := Cert.ReferenceIdeal.Gen.facts) := by
  intro m g m' g' _ heq
  refine ⟨fun c => res0 (argX m c) (argXs m c) (argDy m c) (argDw m c), fun c => res1 (argDy m c), fun c => res2 (argDy m c), run m g, ?_⟩
  refine (θ_run Cert.ReferenceIdeal.defs _ _).mono (fun r h c => ?_) (Cert.ReferenceIdeal.Run.run m' g')
  obtain ⟨e0, e1, e2, e3⟩ := heq c
  obtain ⟨h0, h1, h2, hrest⟩ := h c
  refine ⟨h0.trans ?_, h1.trans ?_, h2.trans ?_, hrest⟩
  · rw [e0, e1, e2, e3]
  · rw [e2]
  · rw [e2]

end Cert.KernelIdeal.Run

end
-- ==== Proof.lean ====
/- The proof of the claims: the frames of the kernel (as printed and idealized) and of the reference, and the equality of
   the kernel's three results with the reference's over exact values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.IdealRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial,
    Cert.KernelIdeal.Run.algebraic⟩

end Cert.Proof

end
